-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x1 : Shape := ⟨2, ![100000, 1]⟩
abbrev S100000x2 : Shape := ⟨2, ![100000, 2]⟩
abbrev S100000x6 : Shape := ⟨2, ![100000, 6]⟩
abbrev S100000 : Shape := ⟨1, ![100000]⟩
abbrev S_ : Shape := ⟨0, ![]⟩
abbrev S100000x4 : Shape := ⟨2, ![100000, 4]⟩
abbrev S100000x16 : Shape := ⟨2, ![100000, 16]⟩
abbrev S1x1 : Shape := ⟨2, ![1, 1]⟩
abbrev S2000x16 : Shape := ⟨2, ![2000, 16]⟩
abbrev S1x256 : Shape := ⟨2, ![1, 256]⟩
abbrev S8 : Shape := ⟨1, ![8]⟩
abbrev S1 : Shape := ⟨1, ![1]⟩
abbrev S2000x1 : Shape := ⟨2, ![2000, 1]⟩
abbrev S2000x256 : Shape := ⟨2, ![2000, 256]⟩
abbrev S256 : Shape := ⟨1, ![256]⟩
abbrev S1x2000x1 : Shape := ⟨3, ![1, 2000, 1]⟩
abbrev S1x1x1 : Shape := ⟨3, ![1, 1, 1]⟩
abbrev S2000 : Shape := ⟨1, ![2000]⟩
abbrev S1x2000x256 : Shape := ⟨3, ![1, 2000, 256]⟩
abbrev S1x1x256 : Shape := ⟨3, ![1, 1, 256]⟩

abbrev nBuf : Space → Nat
  | .hbm => 16
  | .vmem => 11
  | .smem => 1
  | _ => 0

abbrev bufTy : (tb : Table) → Fin (tcTables nBuf tb) → BufTy
  | .hbm, ⟨0, _⟩ => ⟨S100000x1, .f32⟩
  | .hbm, ⟨1, _⟩ => ⟨S100000x2, .f32⟩
  | .hbm, ⟨2, _⟩ => ⟨S100000x1, .f32⟩
  | .hbm, ⟨3, _⟩ => ⟨S100000x2, .f32⟩
  | .hbm, ⟨4, _⟩ => ⟨S100000x1, .f32⟩
  | .hbm, ⟨5, _⟩ => ⟨S100000x6, .f32⟩
  | .hbm, ⟨6, _⟩ => ⟨S100000, .i32⟩
  | .hbm, ⟨7, _⟩ => ⟨S100000x1, .f32⟩
  | .hbm, ⟨8, _⟩ => ⟨S100000x2, .f32⟩
  | .hbm, ⟨9, _⟩ => ⟨S100000x1, .f32⟩
  | .hbm, ⟨10, _⟩ => ⟨S100000x1, .i32⟩
  | .hbm, ⟨11, _⟩ => ⟨S100000x1, .f32⟩
  | .hbm, ⟨12, _⟩ => ⟨S_, .f32⟩
  | .hbm, ⟨13, _⟩ => ⟨S100000x4, .f32⟩
  | .hbm, ⟨14, _⟩ => ⟨S100000x16, .f32⟩
  | .hbm, ⟨15, _⟩ => ⟨S1x1, .f32⟩
  | .local _ .vmem, ⟨0, _⟩ => ⟨S2000x16, .f32⟩
  | .local _ .vmem, ⟨1, _⟩ => ⟨S2000x16, .f32⟩
  | .local _ .vmem, ⟨2, _⟩ => ⟨S1x1, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .smem, ⟨0, _⟩ => ⟨S8, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![3, 50], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg0 : BitVec 32 := BitVec.ofNat 32 (i 0).val
  let c2_i32 : BitVec 32 := 2#32
  let v38 : BitVec 1 := Scalar.cmpi .eq arg0 c2_i32
  let v39 : BitVec 32 := Scalar.extui v38
  let c0_i32_9 : BitVec 32 := 0#32
  let v40 : BitVec 1 := Scalar.cmpi .ne v39 c0_i32_9
  v40

def k0_cond5 (i : grid0.Coords) : BitVec 1 :=
  let arg1 : BitVec 32 := BitVec.ofNat 32 (i 1).val
  let c49_i32 : BitVec 32 := 49#32
  let v125 : BitVec 1 := Scalar.cmpi .eq arg1 c49_i32
  let v126 : BitVec 32 := Scalar.extui v125
  let c0_i32_42 : BitVec 32 := 0#32
  let v127 : BitVec 1 := Scalar.cmpi .ne v126 c0_i32_42
  v127

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S100000x1 : Shape := ⟨2, ![100000, 1]⟩
abbrev S100000x2 : Shape := ⟨2, ![100000, 2]⟩
abbrev S100000x6 : Shape := ⟨2, ![100000, 6]⟩
abbrev S100000 : Shape := ⟨1, ![100000]⟩
abbrev S_ : Shape := ⟨0, ![]⟩
abbrev S256 : Shape := ⟨1, ![256]⟩
abbrev S1 : Shape := ⟨1, ![1]⟩
abbrev S1x256 : Shape := ⟨2, ![1, 256]⟩
abbrev S100000x256 : Shape := ⟨2, ![100000, 256]⟩
abbrev S256x1 : Shape := ⟨2, ![256, 1]⟩
abbrev S256x2 : Shape := ⟨2, ![256, 2]⟩
abbrev S100000x1x2 : Shape := ⟨3, ![100000, 1, 2]⟩
abbrev S1x256x2 : Shape := ⟨3, ![1, 256, 2]⟩
abbrev S100000x256x2 : Shape := ⟨3, ![100000, 256, 2]⟩
abbrev S1x1 : Shape := ⟨2, ![1, 1]⟩

abbrev nBuf : Space → Nat
  | .hbm => 322
  | .vmem => 0
  | .smem => 0
  | _ => 0

abbrev hbmTy0_0 (i : Nat) : BufTy := match i % 128 with
  | 0 => ⟨S100000x1, .f32⟩
  | 1 => ⟨S100000x2, .f32⟩
  | 2 => ⟨S100000x1, .f32⟩
  | 3 => ⟨S100000x2, .f32⟩
  | 4 => ⟨S100000x1, .f32⟩
  | 5 => ⟨S100000x6, .f32⟩
  | 6 => ⟨S100000, .i32⟩
  | 7 => ⟨S100000x1, .f32⟩
  | 8 => ⟨S100000x2, .f32⟩
  | 9 => ⟨S100000x1, .f32⟩
  | 10 => ⟨S100000, .f32⟩
  | 11 => ⟨S_, .f32⟩
  | 12 => ⟨S_, .f32⟩
  | 13 => ⟨S_, .f32⟩
  | 14 => ⟨S100000, .f32⟩
  | 15 => ⟨S100000, .f32⟩
  | 16 => ⟨S_, .f32⟩
  | 17 => ⟨S100000, .f32⟩
  | 18 => ⟨S100000, .f32⟩
  | 19 => ⟨S100000, .f32⟩
  | 20 => ⟨S100000, .f32⟩
  | 21 => ⟨S_, .f32⟩
  | 22 => ⟨S100000, .f32⟩
  | 23 => ⟨S100000, .f32⟩
  | 24 => ⟨S_, .i32⟩
  | 25 => ⟨S100000, .i32⟩
  | 26 => ⟨S100000, .i1⟩
  | 27 => ⟨S_, .f32⟩
  | 28 => ⟨S_, .f32⟩
  | 29 => ⟨S100000, .f32⟩
  | 30 => ⟨S100000, .f32⟩
  | 31 => ⟨S100000, .f32⟩
  | 32 => ⟨S_, .f32⟩
  | 33 => ⟨S256, .f32⟩
  | 34 => ⟨S100000x1, .i32⟩
  | 35 => ⟨S100000, .f32⟩
  | 36 => ⟨S256, .f32⟩
  | 37 => ⟨S_, .f32⟩
  | 38 => ⟨S256, .f32⟩
  | 39 => ⟨S256, .i1⟩
  | 40 => ⟨S_, .i32⟩
  | 41 => ⟨S1, .i32⟩
  | 42 => ⟨S_, .i1⟩
  | 43 => ⟨S256, .i1⟩
  | 44 => ⟨S_, .f32⟩
  | 45 => ⟨S_, .f32⟩
  | 46 => ⟨S100000, .f32⟩
  | 47 => ⟨S100000, .f32⟩
  | 48 => ⟨S100000x1, .i32⟩
  | 49 => ⟨S256, .i32⟩
  | 50 => ⟨S1x256, .i32⟩
  | 51 => ⟨S100000x256, .i32⟩
  | 52 => ⟨S100000x256, .i32⟩
  | 53 => ⟨S100000x256, .i1⟩
  | 54 => ⟨S100000x1, .f32⟩
  | 55 => ⟨S_, .f32⟩
  | 56 => ⟨S_, .f32⟩
  | 57 => ⟨S100000x256, .f32⟩
  | 58 => ⟨S100000x256, .f32⟩
  | 59 => ⟨S100000x256, .f32⟩
  | 60 => ⟨S_, .f32⟩
  | 61 => ⟨S256, .f32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000, .f32⟩
  | 71 => ⟨S100000, .i1⟩
  | 72 => ⟨S100000, .i1⟩
  | 73 => ⟨S100000, .i1⟩
  | 74 => ⟨S100000, .i32⟩
  | 75 => ⟨S_, .i32⟩
  | 76 => ⟨S_, .i32⟩
  | 77 => ⟨S100000, .i32⟩
  | 78 => ⟨S100000, .i32⟩
  | 79 => ⟨S_, .i32⟩
  | 80 => ⟨S256, .i32⟩
  | 81 => ⟨S100000x1, .i32⟩
  | 82 => ⟨S256, .i32⟩
  | 83 => ⟨S_, .i32⟩
  | 84 => ⟨S_, .i32⟩
  | 85 => ⟨S_, .i32⟩
  | 86 => ⟨S256, .i32⟩
  | 87 => ⟨S256, .i32⟩
  | 88 => ⟨S_, .i32⟩
  | 89 => ⟨S256, .i32⟩
  | 90 => ⟨S256, .i32⟩
  | 91 => ⟨S_, .i32⟩
  | 92 => ⟨S256, .i32⟩
  | 93 => ⟨S256, .i1⟩
  | 94 => ⟨S_, .i32⟩
  | 95 => ⟨S256, .i32⟩
  | 96 => ⟨S256, .i32⟩
  | 97 => ⟨S256, .i32⟩
  | 98 => ⟨S256x1, .i32⟩
  | 99 => ⟨S256x2, .f32⟩
  | 100 => ⟨S_, .i32⟩
  | 101 => ⟨S256, .i32⟩
  | 102 => ⟨S256, .i1⟩
  | 103 => ⟨S_, .i32⟩
  | 104 => ⟨S256, .i32⟩
  | 105 => ⟨S256, .i32⟩
  | 106 => ⟨S256, .i32⟩
  | 107 => ⟨S256x1, .i32⟩
  | 108 => ⟨S256, .f32⟩
  | 109 => ⟨S100000x1x2, .f32⟩
  | 110 => ⟨S1x256x2, .f32⟩
  | 111 => ⟨S100000x256x2, .f32⟩
  | 112 => ⟨S100000x256x2, .f32⟩
  | 113 => ⟨S100000x256x2, .f32⟩
  | 114 => ⟨S100000x256x2, .f32⟩
  | 115 => ⟨S_, .f32⟩
  | 116 => ⟨S100000x256, .f32⟩
  | 117 => ⟨S_, .f32⟩
  | 118 => ⟨S100000x256, .f32⟩
  | 119 => ⟨S100000x256, .f32⟩
  | 120 => ⟨S100000x256, .f32⟩
  | 121 => ⟨S100000x1, .i32⟩
  | 122 => ⟨S256, .i32⟩
  | 123 => ⟨S1x256, .i32⟩
  | 124 => ⟨S100000x256, .i32⟩
  | 125 => ⟨S100000x256, .i32⟩
  | 126 => ⟨S100000x256, .i1⟩
  | 127 => ⟨S100000x1, .i1⟩
  | _ => ⟨S100000x1, .f32⟩

abbrev hbmTy0_1 (i : Nat) : BufTy := match i % 128 with
  | 0 => ⟨S100000x1, .i1⟩
  | 1 => ⟨S100000x256, .i1⟩
  | 2 => ⟨S100000x256, .i1⟩
  | 3 => ⟨S1x256, .i1⟩
  | 4 => ⟨S100000x1, .f32⟩
  | 5 => ⟨S1x256, .f32⟩
  | 6 => ⟨S100000x256, .f32⟩
  | 7 => ⟨S100000x256, .f32⟩
  | 8 => ⟨S100000x256, .f32⟩
  | 9 => ⟨S256, .f32⟩
  | 10 => ⟨S_, .f32⟩
  | 11 => ⟨S_, .f32⟩
  | 12 => ⟨S100000x256, .i1⟩
  | 13 => ⟨S100000x256, .i1⟩
  | 14 => ⟨S100000x256, .f32⟩
  | 15 => ⟨S_, .f32⟩
  | 16 => ⟨S_, .f32⟩
  | 17 => ⟨S100000x256, .f32⟩
  | 18 => ⟨S100000x256, .f32⟩
  | 19 => ⟨S_, .f32⟩
  | 20 => ⟨S_, .f32⟩
  | 21 => ⟨S256, .f32⟩
  | 22 => ⟨S256, .f32⟩
  | 23 => ⟨S_, .f32⟩
  | 24 => ⟨S_, .f32⟩
  | 25 => ⟨S_, .f32⟩
  | 26 => ⟨S_, .f32⟩
  | 27 => ⟨S_, .f32⟩
  | 28 => ⟨S100000x256, .i1⟩
  | 29 => ⟨S100000x256, .i1⟩
  | 30 => ⟨S100000x256, .i1⟩
  | 31 => ⟨S_, .f32⟩
  | 32 => ⟨S100000x256, .f32⟩
  | 33 => ⟨S100000x256, .f32⟩
  | 34 => ⟨S_, .f32⟩
  | 35 => ⟨S100000x256, .f32⟩
  | 36 => ⟨S100000x256, .f32⟩
  | 37 => ⟨S100000x256, .f32⟩
  | 38 => ⟨S_, .f32⟩
  | 39 => ⟨S_, .f32⟩
  | 40 => ⟨S100000x256, .f32⟩
  | 41 => ⟨S100000x256, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S256, .f32⟩
  | 59 => ⟨S256, .f32⟩
  | 60 => ⟨S_, .f32⟩
  | 61 => ⟨S_, .f32⟩
  | 62 => ⟨S256, .f32⟩
  | 63 => ⟨S256, .f32⟩
  | 64 => ⟨S_, .f32⟩
  | 65 => ⟨S_, .f32⟩
  | 66 => ⟨S_, .f32⟩
  | 67 => ⟨S_, .f32⟩
  | 68 => ⟨S_, .f32⟩
  | 69 => ⟨S100000, .f32⟩
  | 70 => ⟨S_, .f32⟩
  | 71 => ⟨S_, .f32⟩
  | 72 => ⟨S_, .f32⟩
  | 73 => ⟨S_, .f32⟩
  | 74 => ⟨S100000, .f32⟩
  | 75 => ⟨S100000, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S_, .f32⟩
  | 104 => ⟨S100000, .f32⟩
  | 105 => ⟨S100000, .f32⟩
  | 106 => ⟨S100000, .f32⟩
  | 107 => ⟨S100000, .f32⟩
  | 108 => ⟨S100000, .f32⟩
  | 109 => ⟨S100000, .f32⟩
  | 110 => ⟨S100000, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .i1⟩
  | 117 => ⟨S_, .f32⟩
  | 118 => ⟨S_, .f32⟩
  | 119 => ⟨S100000, .f32⟩
  | 120 => ⟨S100000, .f32⟩
  | 121 => ⟨S100000, .f32⟩
  | 122 => ⟨S_, .f32⟩
  | 123 => ⟨S_, .f32⟩
  | 124 => ⟨S100000, .f32⟩
  | 125 => ⟨S100000, .f32⟩
  | 126 => ⟨S100000x2, .f32⟩
  | 127 => ⟨S100000x2, .f32⟩
  | _ => ⟨S100000x1, .f32⟩

abbrev hbmTy0_2 (i : Nat) : BufTy := match i % 128 with
  | 0 => ⟨S_, .f32⟩
  | 1 => ⟨S100000, .f32⟩
  | 2 => ⟨S_, .f32⟩
  | 3 => ⟨S100000, .f32⟩
  | 4 => ⟨S100000, .f32⟩
  | 5 => ⟨S100000, .f32⟩
  | 6 => ⟨S100000, .f32⟩
  | 7 => ⟨S100000, .f32⟩
  | 8 => ⟨S100000, .f32⟩
  | 9 => ⟨S_, .f32⟩
  | 10 => ⟨S100000, .f32⟩
  | 11 => ⟨S100000, .f32⟩
  | 12 => ⟨S100000, .f32⟩
  | 13 => ⟨S_, .f32⟩
  | 14 => ⟨S100000, .f32⟩
  | 15 => ⟨S100000, .f32⟩
  | 16 => ⟨S100000, .f32⟩
  | 17 => ⟨S_, .f32⟩
  | 18 => ⟨S100000, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S100000, .f32⟩
  | 26 => ⟨S_, .f32⟩
  | 27 => ⟨S256, .f32⟩
  | 28 => ⟨S100000x1, .i32⟩
  | 29 => ⟨S256, .f32⟩
  | 30 => ⟨S_, .f32⟩
  | 31 => ⟨S256, .f32⟩
  | 32 => ⟨S100000x1, .i32⟩
  | 33 => ⟨S256, .f32⟩
  | 34 => ⟨S_, .f32⟩
  | 35 => ⟨S256, .f32⟩
  | 36 => ⟨S256, .i1⟩
  | 37 => ⟨S_, .f32⟩
  | 38 => ⟨S_, .f32⟩
  | 39 => ⟨S256, .f32⟩
  | 40 => ⟨S256, .f32⟩
  | 41 => ⟨S256, .f32⟩
  | 42 => ⟨S_, .f32⟩
  | 43 => ⟨S_, .f32⟩
  | 44 => ⟨S256, .f32⟩
  | 45 => ⟨S256, .f32⟩
  | 46 => ⟨S_, .f32⟩
  | 47 => ⟨S_, .f32⟩
  | 48 => ⟨S256, .f32⟩
  | 49 => ⟨S256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1x1, .f32⟩
  | _ => ⟨S100000x1, .f32⟩

abbrev hbmTy (i : Nat) : BufTy := match i / 128 with
  | 0 => hbmTy0_0 i
  | 1 => hbmTy0_1 i
  | 2 => hbmTy0_2 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_5 : Ref sig .tc := ⟨.hbm, 37, rfl⟩
abbrev main_v13 : Ref sig .tc := ⟨.hbm, 38, rfl⟩
abbrev main_v14 : Ref sig .tc := ⟨.hbm, 39, rfl⟩
abbrev main_c_6 : Ref sig .tc := ⟨.hbm, 40, rfl⟩
abbrev main_v15 : Ref sig .tc := ⟨.hbm, 41, rfl⟩
abbrev main_c_7 : Ref sig .tc := ⟨.hbm, 42, rfl⟩
abbrev main_v16 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_9 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v25 : Ref sig .tc := ⟨.hbm, 59, rfl⟩
abbrev main_cst_10 : Ref sig .tc := ⟨.hbm, 60, rfl⟩
abbrev main_v26 : Ref sig .tc := ⟨.hbm, 61, rfl⟩
abbrev main_c_11 : Ref sig .tc := ⟨.hbm, 62, rfl⟩
abbrev main_v27 : Ref sig .tc := ⟨.hbm, 63, rfl⟩
abbrev main_v28 : Ref sig .tc := ⟨.hbm, 64, rfl⟩
abbrev main_c_12 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_13 : Ref sig .tc := ⟨.hbm, 75, rfl⟩
abbrev main_call4_v0 : Ref sig .tc := ⟨.hbm, 76, rfl⟩
abbrev main_call4_v1 : Ref sig .tc := ⟨.hbm, 77, rfl⟩
abbrev main_v38 : Ref sig .tc := ⟨.hbm, 78, rfl⟩
abbrev main_c_14 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_15 : Ref sig .tc := ⟨.hbm, 83, rfl⟩
abbrev main_c_16 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_v42 : Ref sig .tc := ⟨.hbm, 90, rfl⟩
abbrev main_c_17 : Ref sig .tc := ⟨.hbm, 91, rfl⟩
abbrev main_v43 : Ref sig .tc := ⟨.hbm, 92, rfl⟩
abbrev main_v44 : Ref sig .tc := ⟨.hbm, 93, rfl⟩
abbrev main_c_18 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_19 : Ref sig .tc := ⟨.hbm, 100, rfl⟩
abbrev main_v50 : Ref sig .tc := ⟨.hbm, 101, rfl⟩
abbrev main_v51 : Ref sig .tc := ⟨.hbm, 102, rfl⟩
abbrev main_c_20 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_21 : Ref sig .tc := ⟨.hbm, 115, rfl⟩
abbrev main_v63 : Ref sig .tc := ⟨.hbm, 116, rfl⟩
abbrev main_cst_22 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_23 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_24 : Ref sig .tc := ⟨.hbm, 143, rfl⟩
abbrev main_call6_v0 : Ref sig .tc := ⟨.hbm, 144, rfl⟩
abbrev main_call6_v1 : Ref sig .tc := ⟨.hbm, 145, rfl⟩
abbrev main_v88 : Ref sig .tc := ⟨.hbm, 146, rfl⟩
abbrev main_cst_25 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_26 : Ref sig .tc := ⟨.hbm, 151, rfl⟩
abbrev main_v92 : Ref sig .tc := ⟨.hbm, 152, rfl⟩
abbrev main_cst_27 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_28 : Ref sig .tc := ⟨.hbm, 159, rfl⟩
abbrev main_v98 : Ref sig .tc := ⟨.hbm, 160, rfl⟩
abbrev main_v99 : Ref sig .tc := ⟨.hbm, 161, rfl⟩
abbrev main_call7_cst : Ref sig .tc := ⟨.hbm, 162, rfl⟩
abbrev main_call7_v0 : Ref sig .tc := ⟨.hbm, 163, rfl⟩
abbrev main_v100 : Ref sig .tc := ⟨.hbm, 164, rfl⟩
abbrev main_v101 : Ref sig .tc := ⟨.hbm, 165, rfl⟩
abbrev main_cst_29 : Ref sig .tc := ⟨.hbm, 166, rfl⟩
abbrev main_call8_v0 : Ref sig .tc := ⟨.hbm, 167, rfl⟩
abbrev main_call8_v1 : Ref sig .tc := ⟨.hbm, 168, rfl⟩
abbrev main_v102 : Ref sig .tc := ⟨.hbm, 169, rfl⟩
abbrev main_cst_30 : Ref sig .tc := ⟨.hbm, 170, rfl⟩
abbrev main_v103 : Ref sig .tc := ⟨.hbm, 171, rfl⟩
abbrev main_cst_31 : Ref sig .tc := ⟨.hbm, 172, rfl⟩
abbrev main_v104 : Ref sig .tc := ⟨.hbm, 173, rfl⟩
abbrev main_cst_32 : Ref sig .tc := ⟨.hbm, 174, rfl⟩
abbrev main_v105 : Ref sig .tc := ⟨.hbm, 175, rfl⟩
abbrev main_v106 : Ref sig .tc := ⟨.hbm, 176, rfl⟩
abbrev main_cst_33 : Ref sig .tc := ⟨.hbm, 177, rfl⟩
abbrev main_cst_34 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_call9_v3 : Ref sig .tc := ⟨.hbm, 182, rfl⟩
abbrev main_call9_v4 : Ref sig .tc := ⟨.hbm, 183, rfl⟩
abbrev main_v107 : Ref sig .tc := ⟨.hbm, 184, rfl⟩
abbrev main_cst_35 : Ref sig .tc := ⟨.hbm, 185, rfl⟩
abbrev main_v108 : Ref sig .tc := ⟨.hbm, 186, rfl⟩
abbrev main_v109 : Ref sig .tc := ⟨.hbm, 187, rfl⟩
abbrev main_cst_36 : Ref sig .tc := ⟨.hbm, 188, rfl⟩
abbrev main_call10_v0 : Ref sig .tc := ⟨.hbm, 189, rfl⟩
abbrev main_call10_v1 : Ref sig .tc := ⟨.hbm, 190, rfl⟩
abbrev main_v110 : Ref sig .tc := ⟨.hbm, 191, rfl⟩
abbrev main_cst_37 : Ref sig .tc := ⟨.hbm, 192, rfl⟩
abbrev main_v111 : Ref sig .tc := ⟨.hbm, 193, rfl⟩
abbrev main_cst_38 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_39 : Ref sig .tc := ⟨.hbm, 198, rfl⟩
abbrev main_v115 : Ref sig .tc := ⟨.hbm, 199, rfl⟩
abbrev main_cst_40 : Ref sig .tc := ⟨.hbm, 200, rfl⟩
abbrev main_call11_v0 : Ref sig .tc := ⟨.hbm, 201, rfl⟩
abbrev main_call11_v1 : Ref sig .tc := ⟨.hbm, 202, rfl⟩
abbrev main_v116 : Ref sig .tc := ⟨.hbm, 203, rfl⟩
abbrev main_cst_41 : Ref sig .tc := ⟨.hbm, 204, rfl⟩
abbrev main_v117 : Ref sig .tc := ⟨.hbm, 205, rfl⟩
abbrev main_cst_42 : Ref sig .tc := ⟨.hbm, 206, rfl⟩
abbrev main_v118 : Ref sig .tc := ⟨.hbm, 207, rfl⟩
abbrev main_cst_43 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_cst_44 : Ref sig .tc := ⟨.hbm, 212, rfl⟩
abbrev main_v122 : Ref sig .tc := ⟨.hbm, 213, rfl⟩
abbrev main_v123 : Ref sig .tc := ⟨.hbm, 214, rfl⟩
abbrev main_cst_45 : Ref sig .tc := ⟨.hbm, 215, rfl⟩
abbrev main_v124 : Ref sig .tc := ⟨.hbm, 216, rfl⟩
abbrev main_v125 : Ref sig .tc := ⟨.hbm, 217, rfl⟩
abbrev main_cst_46 : Ref sig .tc := ⟨.hbm, 218, rfl⟩
abbrev main_v126 : Ref sig .tc := ⟨.hbm, 219, rfl⟩
abbrev main_v127 : Ref sig .tc := ⟨.hbm, 220, rfl⟩
abbrev main_cst_47 : Ref sig .tc := ⟨.hbm, 221, rfl⟩
abbrev main_v128 : Ref sig .tc := ⟨.hbm, 222, rfl⟩
abbrev main_v129 : Ref sig .tc := ⟨.hbm, 223, rfl⟩
abbrev main_cst_48 : Ref sig .tc := ⟨.hbm, 224, rfl⟩
abbrev main_v130 : Ref sig .tc := ⟨.hbm, 225, rfl⟩
abbrev main_v131 : Ref sig .tc := ⟨.hbm, 226, rfl⟩
abbrev main_cst_49 : Ref sig .tc := ⟨.hbm, 227, rfl⟩
abbrev main_call12_v0 : Ref sig .tc := ⟨.hbm, 228, rfl⟩
abbrev main_call12_v1 : Ref sig .tc := ⟨.hbm, 229, rfl⟩
abbrev main_v132 : Ref sig .tc := ⟨.hbm, 230, rfl⟩
abbrev main_call13_cst : Ref sig .tc := ⟨.hbm, 231, rfl⟩
abbrev main_call13_v0 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_50 : Ref sig .tc := ⟨.hbm, 239, rfl⟩
abbrev main_v139 : Ref sig .tc := ⟨.hbm, 240, rfl⟩
abbrev main_v140 : Ref sig .tc := ⟨.hbm, 241, rfl⟩
abbrev main_cst_51 : Ref sig .tc := ⟨.hbm, 242, rfl⟩
abbrev main_v141 : Ref sig .tc := ⟨.hbm, 243, rfl⟩
abbrev main_v142 : Ref sig .tc := ⟨.hbm, 244, rfl⟩
abbrev main_cst_52 : Ref sig .tc := ⟨.hbm, 245, rfl⟩
abbrev main_call14_v0 : Ref sig .tc := ⟨.hbm, 246, rfl⟩
abbrev main_call14_v1 : Ref sig .tc := ⟨.hbm, 247, rfl⟩
abbrev main_v143 : Ref sig .tc := ⟨.hbm, 248, rfl⟩
abbrev main_v144 : Ref sig .tc := ⟨.hbm, 249, rfl⟩
abbrev main_cst_53 : Ref sig .tc := ⟨.hbm, 250, rfl⟩
abbrev main_call15_v0 : Ref sig .tc := ⟨.hbm, 251, rfl⟩
abbrev main_call15_v1 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_cst_54 : Ref sig .tc := ⟨.hbm, 256, rfl⟩
abbrev main_v148 : Ref sig .tc := ⟨.hbm, 257, rfl⟩
abbrev main_cst_55 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_56 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_cst_57 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_cst_58 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_cst_59 : Ref sig .tc := ⟨.hbm, 277, rfl⟩
abbrev main_call16_v0 : Ref sig .tc := ⟨.hbm, 278, rfl⟩
abbrev main_call16_v1 : Ref sig .tc := ⟨.hbm, 279, rfl⟩
abbrev main_v164 : Ref sig .tc := ⟨.hbm, 280, rfl⟩
abbrev main_v165 : Ref sig .tc := ⟨.hbm, 281, rfl⟩
abbrev main_cst_60 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_cst_61 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_cst_62 : Ref sig .tc := ⟨.hbm, 290, rfl⟩
abbrev main_v172 : Ref sig .tc := ⟨.hbm, 291, rfl⟩
abbrev main_v173 : Ref sig .tc := ⟨.hbm, 292, rfl⟩
abbrev main_cst_63 : Ref sig .tc := ⟨.hbm, 293, rfl⟩
abbrev main_call17_v0 : Ref sig .tc := ⟨.hbm, 294, rfl⟩
abbrev main_call17_v1 : Ref sig .tc := ⟨.hbm, 295, rfl⟩
abbrev main_v174 : Ref sig .tc := ⟨.hbm, 296, rfl⟩
abbrev main_v175 : Ref sig .tc := ⟨.hbm, 297, rfl⟩
abbrev main_cst_64 : Ref sig .tc := ⟨.hbm, 298, rfl⟩
abbrev main_call18_v0 : Ref sig .tc := ⟨.hbm, 299, rfl⟩
abbrev main_call18_v1 : Ref sig .tc := ⟨.hbm, 300, rfl⟩
abbrev main_v176 : Ref sig .tc := ⟨.hbm, 301, rfl⟩
abbrev main_cst_65 : Ref sig .tc := ⟨.hbm, 302, rfl⟩
abbrev main_call19_v0 : Ref sig .tc := ⟨.hbm, 303, rfl⟩
abbrev main_call19_v1 : Ref sig .tc := ⟨.hbm, 304, rfl⟩
abbrev main_v177 : Ref sig .tc := ⟨.hbm, 305, rfl⟩
abbrev main_cst_66 : Ref sig .tc := ⟨.hbm, 306, rfl⟩
abbrev main_v178 : Ref sig .tc := ⟨.hbm, 307, rfl⟩
abbrev main_cst_67 : Ref sig .tc := ⟨.hbm, 308, rfl⟩
abbrev main_v179 : Ref sig .tc := ⟨.hbm, 309, rfl⟩
abbrev main_v180 : Ref sig .tc := ⟨.hbm, 310, rfl⟩
abbrev main_cst_68 : Ref sig .tc := ⟨.hbm, 311, rfl⟩
abbrev main_v181 : Ref sig .tc := ⟨.hbm, 312, rfl⟩
abbrev main_v182 : Ref sig .tc := ⟨.hbm, 313, rfl⟩
abbrev main_cst_69 : Ref sig .tc := ⟨.hbm, 314, rfl⟩
abbrev main_v183 : Ref sig .tc := ⟨.hbm, 315, rfl⟩
abbrev main_v184 : Ref sig .tc := ⟨.hbm, 316, rfl⟩
abbrev main_cst_70 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩

abbrev nD : Nat := 1
abbrev τ : Topo := Topo.v7x

variable {F : FTy → Type} [FloatOps F]
-- ==== Proof.KernelIdealStep.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.WritesUnit

@[expose] public section

set_option maxRecDepth 16384

/-!
# The body of the kernel as a step on a small state

Eight rows of 256 numbers and four words are carried from one grid point to the next. `St` holds them; `init` is what the
first point sets, and `step0`, `step1`, `step2` are what a point of each of the three passes makes of them with its block of
the packed table. `fin` is the loss that the last point writes.
-/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body carries from one grid point to the next: the eight rows and the four words of scalar memory. -/
structure St (F : FTy → Type) where
  segc : Vec F S1x256 .f32
  betak : Vec F S1x256 .f32
  pnum : Vec F S1x256 .f32
  pden : Vec F S1x256 .f32
  amin : Vec F S1x256 .f32
  ax0 : Vec F S1x256 .f32
  ax1 : Vec F S1x256 .f32
  abeta : Vec F S1x256 .f32
  w0 : Elt F .f32
  w1 : Elt F .f32
  w2 : Elt F .f32
  w3 : Elt F .f32

/-- What the first grid point sets before its pass begins. -/
def init : St F where
  segc := k0_pay2
  betak := k0_pay3
  pnum := k0_pay4
  pden := k0_pay5
  amin := k0_pay6
  ax0 := k0_pay7
  ax1 := k0_pay8
  abeta := k0_pay38 k0_pay9
  w0 := Scalar.ofBits .f32 0x00000000#32
  w1 := Scalar.ofBits .f32 0x00000000#32
  w2 := Scalar.ofBits .f32 0x00000000#32
  w3 := Scalar.ofBits .f32 0x00000000#32

/-- One block of the first pass: counts, maxima, the payload sums and the two sums over noise rows. -/
def step0 (x : Vec F S2000x16 .f32) (s : St F) : St F :=
  { s with
    segc := k0_pay10 (k0_pay53 x) (k0_pay55 x) s.segc
    betak := k0_pay11 (k0_pay55 x) (k0_pay56 x) s.betak
    pnum := k0_pay15 (k0_pay43 x) (k0_pay44 x) (k0_pay45 x) (k0_pay46 x) (k0_pay47 x) (k0_pay48 x) (k0_pay49 x) (k0_pay50 x)
      (k0_pay52 x) (k0_pay53 x) (k0_pay55 x) (k0_pay12 (k0_pay47 x)) k0_pay13 s.pnum
    pden := k0_pay57 s.pden (k0_pay16 (k0_pay52 x) (k0_pay53 x) (k0_pay55 x))
    w0 := k0_pay58 x s.w0
    w1 := k0_pay59 x s.w1 }

/-- One block of the second pass: the first row that attains its object's maximum, and that row's columns. -/
def step1 (b : BitVec 32) (x : Vec F S2000x16 .f32) (s : St F) : St F :=
  { s with
    amin := k0_pay60 (k0_pay18 b (k0_pay53 x) (k0_pay55 x) (k0_pay56 x) s.betak) s.amin
    ax0 := k0_pay61 (k0_pay19 b (k0_pay53 x) (k0_pay55 x) (k0_pay56 x) s.betak s.amin)
      (k0_pay21 b (k0_pay41 x) (k0_pay53 x) (k0_pay55 x) (k0_pay56 x) s.betak) s.ax0
    ax1 := k0_pay62 (k0_pay19 b (k0_pay53 x) (k0_pay55 x) (k0_pay56 x) s.betak s.amin)
      (k0_pay22 b (k0_pay42 x) (k0_pay53 x) (k0_pay55 x) (k0_pay56 x) s.betak) s.ax1
    abeta := k0_pay63 (k0_pay19 b (k0_pay53 x) (k0_pay55 x) (k0_pay56 x) s.betak s.amin)
      (k0_pay23 b (k0_pay52 x) (k0_pay53 x) (k0_pay55 x) (k0_pay56 x) s.betak) s.abeta }

/-- One block of the third pass: the attractive and the repulsive sums. -/
def step2 (x : Vec F S2000x16 .f32) (s : St F) : St F :=
  { s with
    w2 := k0_pay36 (k0_pay42 x) (k0_pay53 x) (k0_pay55 x) (k0_pay29 s.abeta) (k0_pay30 k0_pay54 s.segc) (k0_pay31 (k0_pay52 x))
      (k0_pay32 (k0_pay41 x) s.ax0) s.ax1 s.w2
    w3 := k0_pay37 (k0_pay42 x) (k0_pay53 x) (k0_pay55 x) (k0_pay29 s.abeta) (k0_pay30 k0_pay54 s.segc) (k0_pay31 (k0_pay52 x))
      (k0_pay32 (k0_pay41 x) s.ax0) s.ax1 s.w3 }

/-- The loss, from the state after the last block. -/
def fin (s : St F) : Vec F S1x1 .f32 :=
  k0_pay1 (k0_pay24 k0_pay54 s.segc) (k0_pay25 k0_pay54 s.segc) (k0_pay26 k0_pay54 s.segc s.segc s.w2)
    (k0_pay27 k0_pay54 s.segc s.w3) (k0_pay28 k0_pay54 s.segc s.betak) s.w0 s.w1 s.pden s.pnum s.pden

/-- Cell `k` of the scalar memory. -/
def cell (k : ℕ) (hk : k < 8) : S8.Idx := fun a => ⟨k, by fin_cases a; exact hk⟩

/-- The scalar memory holds the four words in its first four cells; the other four hold anything. -/
structure Words (s : St F) (g : Vec F S8 .f32) : Prop where
  h0 : g (cell 0 (by decide)) = s.w0
  h1 : g (cell 1 (by decide)) = s.w1
  h2 : g (cell 2 (by decide)) = s.w2
  h3 : g (cell 3 (by decide)) = s.w3

/-! ## Reading what whole stores left -/

theorem z2 (a : Fin 2) : (![0, 0] : Fin 2 → ℕ) a = 0 := by fin_cases a <;> rfl

theorem rd_row {sp : Space} (v : View sig .tc sp S1x256 .f32) (f : v.ty.Contents (Elt F)) (w : Vec F S1x256 .f32)
    (L : List (View.Piece (Elt F) S1x256 .f32)) :
    v.read (Elt F) (v.writes (Elt F) f
      ((⟨Rect.unit ![0, 0] S1x256.size inb_S1x256_S1x256_0_0, w⟩ : View.Piece (Elt F) S1x256 .f32) :: L)) = w :=
  funext fun y => View.read_writes_cons_unit_of_mem v f _ w L y y rfl fun a => by
    rw [show (![0, 0] : Fin S1x256.rank → ℕ) a = 0 from z2 a, Nat.zero_add]

theorem rd_one {sp : Space} (v : View sig .tc sp S1x1 .f32) (f : v.ty.Contents (Elt F)) (w : Vec F S1x1 .f32)
    (L : List (View.Piece (Elt F) S1x1 .f32)) :
    v.read (Elt F) (v.writes (Elt F) f
      ((⟨Rect.unit ![0, 0] S1x1.size inb_S1x1_S1x1_0_0, w⟩ : View.Piece (Elt F) S1x1 .f32) :: L)) = w :=
  funext fun y => View.read_writes_cons_unit_of_mem v f _ w L y y rfl fun a => by
    rw [show (![0, 0] : Fin S1x1.rank → ℕ) a = 0 from z2 a, Nat.zero_add]

theorem ld_row {sp : Space} (v : View sig .tc sp S1x256 .f32) (f : v.ty.Contents (Elt F)) :
    v.readAt (Elt F) (Rect.unit ![0, 0] S1x256.size inb_S1x256_S1x256_0_0).toLoadRect f = v.read (Elt F) f :=
  funext fun y => by
    rw [View.readAt_apply]
    exact congrArg _ (funext fun a => Fin.ext (by
      show (![0, 0] : Fin 2 → ℕ) a + 1 * (y a).val = (y a).val
      rw [z2 a, Nat.zero_add, Nat.one_mul]))

theorem ld_blk {sp : Space} (v : View sig .tc sp S2000x16 .f32) (f : v.ty.Contents (Elt F)) :
    v.readAt (Elt F) (Rect.unit ![0, 0] S2000x16.size inb_S2000x16_S2000x16_0_0).toLoadRect f = v.read (Elt F) f :=
  funext fun y => by
    rw [View.readAt_apply]
    exact congrArg _ (funext fun a => Fin.ext (by
      show (![0, 0] : Fin 2 → ℕ) a + 1 * (y a).val = (y a).val
      rw [z2 a, Nat.zero_add, Nat.one_mul]))

theorem ld_word {sp : Space} (v : View sig .tc sp S8 .f32) (f : v.ty.Contents (Elt F)) {k : ℕ} (hk : k < 8)
    (inb : ∀ a, (![k] : Fin S8.rank → ℕ) a + S1.size a ≤ S8.size a)
    (x : (Rect.unit (s := S8) ![k] S1.size inb).toLoadRect.shape.Idx) :
    v.readAt (Elt F) (Rect.unit (s := S8) ![k] S1.size inb).toLoadRect f x = v.read (Elt F) f (cell k hk) := by
  rw [View.readAt_apply]
  refine congrArg _ (funext fun a => Fin.ext ?_)
  have hx : (x a).val < 1 := by
    have := (x a).isLt
    fin_cases a
    exact this
  show (![k] : Fin 1 → ℕ) a + 1 * (x a).val = k
  have ha : (![k] : Fin 1 → ℕ) a = k := by fin_cases a; rfl
  omega

theorem rd_word_hit {sp : Space} (v : View sig .tc sp S8 .f32) (f : v.ty.Contents (Elt F)) {k : ℕ} (hk : k < 8)
    (inb : ∀ a, (![k] : Fin S8.rank → ℕ) a + S1.size a ≤ S8.size a) (w : Elt F .f32)
    (L : List (View.Piece (Elt F) S8 .f32)) :
    v.read (Elt F) (v.writes (Elt F) f
      ((⟨Rect.unit (s := S8) ![k] S1.size inb, fun _ => w⟩ : View.Piece (Elt F) S8 .f32) :: L)) (cell k hk) = w :=
  View.read_writes_cons_unit_of_mem v f inb (fun _ => w) L (cell k hk) (fun _ => ⟨0, by first | decide | simp [Rect.unit, S1]⟩) rfl fun a => by
    have ha : (![k] : Fin 1 → ℕ) a = k := by fin_cases a; rfl
    show k = (![k] : Fin 1 → ℕ) a + 0
    omega

theorem rd_word_miss {sp : Space} (v : View sig .tc sp S8 .f32) (f : v.ty.Contents (Elt F)) {k j : ℕ} (hj : j < 8)
    (inb : ∀ a, (![k] : Fin S8.rank → ℕ) a + S1.size a ≤ S8.size a) (hne : j < k ∨ k < j)
    (w : (Rect.unit (s := S8) ![k] S1.size inb).shape.Idx → Elt F .f32) (L : List (View.Piece (Elt F) S8 .f32)) :
    v.read (Elt F) (v.writes (Elt F) f
      ((⟨Rect.unit (s := S8) ![k] S1.size inb, w⟩ : View.Piece (Elt F) S8 .f32) :: L)) (cell j hj)
      = v.read (Elt F) (v.writes (Elt F) f L) (cell j hj) :=
  View.read_writes_cons_unit_of_not_mem v f inb w L (cell j hj) rfl (0 : Fin 1) (by
    show j < k ∨ k + 1 ≤ j
    omega)

theorem rd_nil {sp : Space} {s : Shape} (v : View sig .tc sp s .f32) (f : v.ty.Contents (Elt F)) :
    v.read (Elt F) (v.writes (Elt F) f []) = v.read (Elt F) f := rfl

/-- The buffer that reads `x` is owned at `x`. -/
theorem owns_of {c : Dev nD} {sp : Space} {s : Shape} (a : Memref sig .tc sp s .f32) (f : a.view.ty.Contents (Elt F))
    (x : Vec F s .f32) (h : a.view.read (Elt F) f = x) :
    (a.view.loc (c : Thread nD τ) ↦[a.view.set]{fullShare} f : sProp 𝕄) ⊢ owns (c : Thread nD τ) a fullShare x := by
  unfold owns
  iintro H
  iexists f
  isplitr
  · ipureintro; exact h
  · iexact H

/-- The buffer that reads the words of `s` holds them. -/
theorem words_of (c : Dev nD) (a : Memref sig .tc .smem S8 .f32) (f : a.view.ty.Contents (Elt F)) (s : St F) :
    iprop(⌜Words s (a.view.read (Elt F) f)⌝ ∗ (a.view.loc (c : Thread nD τ) ↦[a.view.set]{fullShare} f : sProp 𝕄)) ⊢
      iprop(∃ g : Vec F S8 .f32, ⌜Words s g⌝ ∗
        (∃ f, ⌜a.view.read (Elt F) f = g⌝ ∗ a.view.loc (c : Thread nD τ) ↦[a.view.set]{fullShare} f)) := by
  iintro ⟨%h, H⟩
  iexists (a.view.read (Elt F) f)
  isplitr
  · ipureintro; exact h
  · iexists f
    isplitr
    · ipureintro; rfl
    · iexact H

/-! ## The carried state, held -/

/-- The nine buffers at the state `s`. -/
def held (c : Dev nD) (arg4 : Memref sig .tc .vmem S1x256 .f32) (arg5 : Memref sig .tc .vmem S1x256 .f32) (arg6 : Memref sig .tc .vmem S1x256 .f32) (arg7 : Memref sig .tc .vmem S1x256 .f32) (arg8 : Memref sig .tc .vmem S1x256 .f32) (arg9 : Memref sig .tc .vmem S1x256 .f32) (arg10 : Memref sig .tc .vmem S1x256 .f32) (arg11 : Memref sig .tc .vmem S1x256 .f32) (arg12 : Memref sig .tc .smem S8 .f32) (s : St F) : sProp 𝕄 :=
  iprop(owns (c : Thread nD τ) arg4 fullShare s.segc ∗ owns (c : Thread nD τ) arg5 fullShare s.betak ∗ owns (c : Thread nD τ) arg6 fullShare s.pnum ∗ owns (c : Thread nD τ) arg7 fullShare s.pden ∗ owns (c : Thread nD τ) arg8 fullShare s.amin ∗ owns (c : Thread nD τ) arg9 fullShare s.ax0 ∗ owns (c : Thread nD τ) arg10 fullShare s.ax1 ∗ owns (c : Thread nD τ) arg11 fullShare s.abeta ∗ (∃ g : Vec F S8 .f32, ⌜Words s g⌝ ∗ owns (c : Thread nD τ) arg12 fullShare g))

/-- The nine buffers at anything. -/
def heldAny (c : Dev nD) (arg4 : Memref sig .tc .vmem S1x256 .f32) (arg5 : Memref sig .tc .vmem S1x256 .f32) (arg6 : Memref sig .tc .vmem S1x256 .f32) (arg7 : Memref sig .tc .vmem S1x256 .f32) (arg8 : Memref sig .tc .vmem S1x256 .f32) (arg9 : Memref sig .tc .vmem S1x256 .f32) (arg10 : Memref sig .tc .vmem S1x256 .f32) (arg11 : Memref sig .tc .vmem S1x256 .f32) (arg12 : Memref sig .tc .smem S8 .f32) : sProp 𝕄 :=
  iprop((∃ d : Vec F S1x256 .f32, owns (c : Thread nD τ) arg4 fullShare d) ∗ (∃ d : Vec F S1x256 .f32, owns (c : Thread nD τ) arg5 fullShare d) ∗ (∃ d : Vec F S1x256 .f32, owns (c : Thread nD τ) arg6 fullShare d) ∗ (∃ d : Vec F S1x256 .f32, owns (c : Thread nD τ) arg7 fullShare d) ∗ (∃ d : Vec F S1x256 .f32, owns (c : Thread nD τ) arg8 fullShare d) ∗ (∃ d : Vec F S1x256 .f32, owns (c : Thread nD τ) arg9 fullShare d) ∗ (∃ d : Vec F S1x256 .f32, owns (c : Thread nD τ) arg10 fullShare d) ∗ (∃ d : Vec F S1x256 .f32, owns (c : Thread nD τ) arg11 fullShare d) ∗ (∃ d : Vec F S8 .f32, owns (c : Thread nD τ) arg12 fullShare d))

theorem held_any (c : Dev nD) (arg4 : Memref sig .tc .vmem S1x256 .f32) (arg5 : Memref sig .tc .vmem S1x256 .f32) (arg6 : Memref sig .tc .vmem S1x256 .f32) (arg7 : Memref sig .tc .vmem S1x256 .f32) (arg8 : Memref sig .tc .vmem S1x256 .f32) (arg9 : Memref sig .tc .vmem S1x256 .f32) (arg10 : Memref sig .tc .vmem S1x256 .f32) (arg11 : Memref sig .tc .vmem S1x256 .f32) (arg12 : Memref sig .tc .smem S8 .f32) (s : St F) : held c arg4 arg5 arg6 arg7 arg8 arg9 arg10 arg11 arg12 s ⊢ heldAny (F := F) c arg4 arg5 arg6 arg7 arg8 arg9 arg10 arg11 arg12 := by
  unfold held heldAny
  iintro ⟨H4, H5, H6, H7, H8, H9, H10, H11, %g, %hg, H12⟩
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  iexists _; iexact H12

end Cert.KernelIdeal.Body

end
-- ==== Proof.KernelIdealRuns.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.KernelIdealStep
public import Idealize.ShloMosaic.Lib.Pipeline.FrameBody
public import Idealize.ShloMosaic.Lib.Tactic
public import Idealize.ShloMosaic.Lib.WordCmp
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point: it sets the state and runs its block of the first pass. -/
theorem run_first (c : Dev nD) (i : grid0.Coords) (arg2 : Memref sig .tc .vmem S2000x16 .f32) (harg2 : arg2.IsWhole) (arg3 : Memref sig .tc .vmem S1x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .smem S8 .f32) (harg12 : arg12.IsWhole)
    (hc1 : k0_cond1 i = 1#1) (hc2 : Scalar.cmpi .ne (Scalar.extui (Scalar.cmpi .eq (BitVec.ofNat 32 (i 0).val) 0#32)) 0#32 = 1#1) (hc3 : ¬(Scalar.cmpi .ne (Scalar.extui (Scalar.cmpi .eq (BitVec.ofNat 32 (i 0).val) 1#32)) 0#32 = 1#1)) (hc4 : ¬(k0_cond4 i = 1#1))
    (x : Vec F S2000x16 .f32)  (E : Set ℕ) (K : PUnit → sProp 𝕄) :
    iprop(owns (c : Thread nD τ) arg2 fullShare x ∗ (∃ o : Vec F S1x1 .f32, owns (c : Thread nD τ) arg3 fullShare o) ∗ heldAny c arg4 arg5 arg6 arg7 arg8 arg9 arg10 arg11 arg12
        ∗ (iprop(owns (c : Thread nD τ) arg2 fullShare x ∗ owns (c : Thread nD τ) arg3 fullShare (k0_pay39) ∗ held c arg4 arg5 arg6 arg7 arg8 arg9 arg10 arg11 arg12 (step0 x init)) -∗ K ⟨⟩))
      ⊢ wp frame (wpE (defs₀ (F := F)) Variants.none c none) E (cc0__oc_body i arg2 harg2 arg3 harg3 arg4 harg4 arg5 harg5 arg6 harg6 arg7 harg7 arg8 harg8 arg9 harg9 arg10 harg10 arg11 harg11 arg12 harg12) K := by
  simp only [cc0__oc_body_eq_skeleton]; unfold cc0__oc_body_skel
  unfold held heldAny owns
  iintro ⟨⟨%f2, %hf2, H2⟩, ⟨%o, %f3, %hf3, H3⟩, ⟨⟨%y4, %f4, %hf4, H4⟩, ⟨%y5, %f5, %hf5, H5⟩, ⟨%y6, %f6, %hf6, H6⟩, ⟨%y7, %f7, %hf7, H7⟩, ⟨%y8, %f8, %hf8, H8⟩, ⟨%y9, %f9, %hf9, H9⟩, ⟨%y10, %f10, %hf10, H10⟩, ⟨%y11, %f11, %hf11, H11⟩, ⟨%y12, %f12, %hf12, H12⟩⟩, Hk⟩
  sl_exec (disch := first | sl_exact hc1 | sl_exact hc2 | sl_exact hc3 | sl_exact hc4)
  sl_step
  iapply Hk
  isplitl [H2]
  · iexists _; isplitr; rotate_left
    · iexact H2
    · ipureintro
      exact hf2
  isplitl [H3]
  · iexists _; isplitr; rotate_left
    · iexact H3
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H4]
  · iexists _; isplitr; rotate_left
    · iexact H4
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H5]
  · iexists _; isplitr; rotate_left
    · iexact H5
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H6]
  · iexists _; isplitr; rotate_left
    · iexact H6
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H7]
  · iexists _; isplitr; rotate_left
    · iexact H7
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H8]
  · iexists _; isplitr; rotate_left
    · iexact H8
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H9]
  · iexists _; isplitr; rotate_left
    · iexact H9
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H10]
  · iexists _; isplitr; rotate_left
    · iexact H10
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  isplitl [H11]
  · iexists _; isplitr; rotate_left
    · iexact H11
    · ipureintro
      try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116
      simp -proj (disch := decide) only [View.readCov, rd_row, rd_one, ld_row, ld_blk, ld_word, rd_word_hit, rd_word_miss, rd_nil, hf2]
      try rfl
  iapply (words_of c arg12 _ (step0 x init))
  isplitr
  rotate_left
  · iexact H12
  · ipureintro
    constructor <;> ((try delta run_first.sl.r run_first.sl.r_1 run_first.sl.r_2 run_first.sl.r_3 run_first.sl.r_4 run_first.sl.r_5 run_first.sl.cst_34 run_first.sl.v47 run_first.sl.H4_1 run_first.sl.H5_1 run_first.sl.H6_1 run_first.sl.H7_1 run_first.sl.v60 run_first.sl.v104 run_first.sl.v116; simp -proj (disch := decide) only [View.readCov, rd_row, rd_one, ld_row, ld_blk, ld_word, rd_word_hit, rd_word_miss, rd_nil, hf2]); try rfl)

/-- A later point of the first pass. -/
theorem run_pass0 (c : Dev nD) (i : grid0.Coords) (arg2 : Memref sig .tc .vmem S2000x16 .f32) (harg2 : arg2.IsWhole) (arg3 : Memref sig .tc .vmem S1x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .smem S8 .f32) (harg12 : arg12.IsWhole)
    (hc1 : ¬(k0_cond1 i = 1#1)) (hc2 : Scalar.cmpi .ne (Scalar.extui (Scalar.cmpi .eq (BitVec.ofNat 32 (i 0).val) 0#32)) 0#32 = 1#1) (hc3 : ¬(Scalar.cmpi .ne (Scalar.extui (Scalar.cmpi .eq (BitVec.ofNat 32 (i 0).val) 1#32)) 0#32 = 1#1)) (hc4 : ¬(k0_cond4 i = 1#1))
    (x : Vec F S2000x16 .f32) (o : Vec F S1x1 .f32) (s : St F) (E : Set ℕ) (K : PUnit → sProp 𝕄) :
    iprop(owns (c : Thread nD τ) arg2 fullShare x ∗ owns (c : Thread nD τ) arg3 fullShare o ∗ held c arg4 arg5 arg6 arg7 arg8 arg9 arg10 arg11 arg12 s
        ∗ (iprop(owns (c : Thread nD τ) arg2 fullShare x ∗ owns (c : Thread nD τ) arg3 fullShare (o) ∗ held c arg4 arg5 arg6 arg7 arg8 arg9 arg10 arg11 arg12 (step0 x s)) -∗ K ⟨⟩))
      ⊢ wp frame (wpE (defs₀ (F := F)) Variants.none c none) E (cc0__oc_body i arg2 harg2 arg3 harg3 arg4 harg4 arg5 harg5 arg6 harg6 arg7 harg7 arg8 harg8 arg9 harg9 arg10 harg10 arg11 harg11 arg12 harg12) K := by
  simp only [cc0__oc_body_eq_skeleton]; unfold cc0__oc_body_skel
  unfold held owns
  iintro ⟨⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, %g, %hg, %f12, %hf12, H12⟩, Hk⟩
  sl_exec (disch := first | sl_exact hc1 | sl_exact hc2 | sl_exact hc3 | sl_exact hc4)
  sl_step
  iapply Hk
  isplitl [H2]
  · iexists _; isplitr; rotate_left
    · iexact H2
    · ipureintro
      exact hf2
  isplitl [H3]
  · iexists _; isplitr; rotate_left
    · iexact H3
    · ipureintro
      exact hf3
  isplitl [H4]
  · iexists _; isplitr; rotate_left
    · iexact H4
    · ipureintro
      try delta run_pass0.sl.r run_pass0.sl.r_1 run_pass0.sl.r_2 run_pass0.sl.r_3 run_pass0.sl.r_4 run_pass0.sl.r_5 run_pass0.sl.r_6 run_pass0.sl.r_7 run_pass0.sl.r_8 run_pass0.sl.r_9 run_pass0.sl.f
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H5]
  · iexists _; isplitr; rotate_left
    · iexact H5
    · ipureintro
      try delta run_pass0.sl.r run_pass0.sl.r_1 run_pass0.sl.r_2 run_pass0.sl.r_3 run_pass0.sl.r_4 run_pass0.sl.r_5 run_pass0.sl.r_6 run_pass0.sl.r_7 run_pass0.sl.r_8 run_pass0.sl.r_9 run_pass0.sl.f
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H6]
  · iexists _; isplitr; rotate_left
    · iexact H6
    · ipureintro
      try delta run_pass0.sl.r run_pass0.sl.r_1 run_pass0.sl.r_2 run_pass0.sl.r_3 run_pass0.sl.r_4 run_pass0.sl.r_5 run_pass0.sl.r_6 run_pass0.sl.r_7 run_pass0.sl.r_8 run_pass0.sl.r_9 run_pass0.sl.f
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H7]
  · iexists _; isplitr; rotate_left
    · iexact H7
    · ipureintro
      try delta run_pass0.sl.r run_pass0.sl.r_1 run_pass0.sl.r_2 run_pass0.sl.r_3 run_pass0.sl.r_4 run_pass0.sl.r_5 run_pass0.sl.r_6 run_pass0.sl.r_7 run_pass0.sl.r_8 run_pass0.sl.r_9 run_pass0.sl.f
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H8]
  · iexists _; isplitr; rotate_left
    · iexact H8
    · ipureintro
      exact hf8
  isplitl [H9]
  · iexists _; isplitr; rotate_left
    · iexact H9
    · ipureintro
      exact hf9
  isplitl [H10]
  · iexists _; isplitr; rotate_left
    · iexact H10
    · ipureintro
      exact hf10
  isplitl [H11]
  · iexists _; isplitr; rotate_left
    · iexact H11
    · ipureintro
      exact hf11
  iapply (words_of c arg12 _ (step0 x s))
  isplitr
  rotate_left
  · iexact H12
  · ipureintro
    constructor <;> ((try delta run_pass0.sl.r run_pass0.sl.r_1 run_pass0.sl.r_2 run_pass0.sl.r_3 run_pass0.sl.r_4 run_pass0.sl.r_5 run_pass0.sl.r_6 run_pass0.sl.r_7 run_pass0.sl.r_8 run_pass0.sl.r_9 run_pass0.sl.f; simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]); try rfl)

/-- A point of the second pass. -/
theorem run_pass1 (c : Dev nD) (i : grid0.Coords) (arg2 : Memref sig .tc .vmem S2000x16 .f32) (harg2 : arg2.IsWhole) (arg3 : Memref sig .tc .vmem S1x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .smem S8 .f32) (harg12 : arg12.IsWhole)
    (hc1 : ¬(k0_cond1 i = 1#1)) (hc2 : ¬(Scalar.cmpi .ne (Scalar.extui (Scalar.cmpi .eq (BitVec.ofNat 32 (i 0).val) 0#32)) 0#32 = 1#1)) (hc3 : Scalar.cmpi .ne (Scalar.extui (Scalar.cmpi .eq (BitVec.ofNat 32 (i 0).val) 1#32)) 0#32 = 1#1) (hc4 : ¬(k0_cond4 i = 1#1))
    (x : Vec F S2000x16 .f32) (o : Vec F S1x1 .f32) (s : St F) (E : Set ℕ) (K : PUnit → sProp 𝕄) :
    iprop(owns (c : Thread nD τ) arg2 fullShare x ∗ owns (c : Thread nD τ) arg3 fullShare o ∗ held c arg4 arg5 arg6 arg7 arg8 arg9 arg10 arg11 arg12 s
        ∗ (iprop(owns (c : Thread nD τ) arg2 fullShare x ∗ owns (c : Thread nD τ) arg3 fullShare (o) ∗ held c arg4 arg5 arg6 arg7 arg8 arg9 arg10 arg11 arg12 (step1 (BitVec.ofNat 32 (i 1).val) x s)) -∗ K ⟨⟩))
      ⊢ wp frame (wpE (defs₀ (F := F)) Variants.none c none) E (cc0__oc_body i arg2 harg2 arg3 harg3 arg4 harg4 arg5 harg5 arg6 harg6 arg7 harg7 arg8 harg8 arg9 harg9 arg10 harg10 arg11 harg11 arg12 harg12) K := by
  simp only [cc0__oc_body_eq_skeleton]; unfold cc0__oc_body_skel
  unfold held owns
  iintro ⟨⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, %g, %hg, %f12, %hf12, H12⟩, Hk⟩
  sl_exec (disch := first | sl_exact hc1 | sl_exact hc2 | sl_exact hc3 | sl_exact hc4)
  sl_step
  iapply Hk
  isplitl [H2]
  · iexists _; isplitr; rotate_left
    · iexact H2
    · ipureintro
      exact hf2
  isplitl [H3]
  · iexists _; isplitr; rotate_left
    · iexact H3
    · ipureintro
      exact hf3
  isplitl [H4]
  · iexists _; isplitr; rotate_left
    · iexact H4
    · ipureintro
      exact hf4
  isplitl [H5]
  · iexists _; isplitr; rotate_left
    · iexact H5
    · ipureintro
      exact hf5
  isplitl [H6]
  · iexists _; isplitr; rotate_left
    · iexact H6
    · ipureintro
      exact hf6
  isplitl [H7]
  · iexists _; isplitr; rotate_left
    · iexact H7
    · ipureintro
      exact hf7
  isplitl [H8]
  · iexists _; isplitr; rotate_left
    · iexact H8
    · ipureintro
      try delta run_pass1.sl.r run_pass1.sl.r_1 run_pass1.sl.r_2 run_pass1.sl.r_3 run_pass1.sl.r_4 run_pass1.sl.r_5 run_pass1.sl.r_6 run_pass1.sl.r_7 run_pass1.sl.r_8 run_pass1.sl.r_9
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H9]
  · iexists _; isplitr; rotate_left
    · iexact H9
    · ipureintro
      try delta run_pass1.sl.r run_pass1.sl.r_1 run_pass1.sl.r_2 run_pass1.sl.r_3 run_pass1.sl.r_4 run_pass1.sl.r_5 run_pass1.sl.r_6 run_pass1.sl.r_7 run_pass1.sl.r_8 run_pass1.sl.r_9
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H10]
  · iexists _; isplitr; rotate_left
    · iexact H10
    · ipureintro
      try delta run_pass1.sl.r run_pass1.sl.r_1 run_pass1.sl.r_2 run_pass1.sl.r_3 run_pass1.sl.r_4 run_pass1.sl.r_5 run_pass1.sl.r_6 run_pass1.sl.r_7 run_pass1.sl.r_8 run_pass1.sl.r_9
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H11]
  · iexists _; isplitr; rotate_left
    · iexact H11
    · ipureintro
      try delta run_pass1.sl.r run_pass1.sl.r_1 run_pass1.sl.r_2 run_pass1.sl.r_3 run_pass1.sl.r_4 run_pass1.sl.r_5 run_pass1.sl.r_6 run_pass1.sl.r_7 run_pass1.sl.r_8 run_pass1.sl.r_9
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  iapply (words_of c arg12 _ (step1 (BitVec.ofNat 32 (i 1).val) x s))
  isplitr
  rotate_left
  · iexact H12
  · ipureintro
    rw [hf12]; exact ⟨hg.h0, hg.h1, hg.h2, hg.h3⟩

/-- A point of the third pass but the last. -/
theorem run_pass2 (c : Dev nD) (i : grid0.Coords) (arg2 : Memref sig .tc .vmem S2000x16 .f32) (harg2 : arg2.IsWhole) (arg3 : Memref sig .tc .vmem S1x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .smem S8 .f32) (harg12 : arg12.IsWhole)
    (hc1 : ¬(k0_cond1 i = 1#1)) (hc2 : ¬(Scalar.cmpi .ne (Scalar.extui (Scalar.cmpi .eq (BitVec.ofNat 32 (i 0).val) 0#32)) 0#32 = 1#1)) (hc3 : ¬(Scalar.cmpi .ne (Scalar.extui (Scalar.cmpi .eq (BitVec.ofNat 32 (i 0).val) 1#32)) 0#32 = 1#1)) (hc4 : k0_cond4 i = 1#1) (hc5 : ¬(k0_cond5 i = 1#1))
    (x : Vec F S2000x16 .f32) (o : Vec F S1x1 .f32) (s : St F) (E : Set ℕ) (K : PUnit → sProp 𝕄) :
    iprop(owns (c : Thread nD τ) arg2 fullShare x ∗ owns (c : Thread nD τ) arg3 fullShare o ∗ held c arg4 arg5 arg6 arg7 arg8 arg9 arg10 arg11 arg12 s
        ∗ (iprop(owns (c : Thread nD τ) arg2 fullShare x ∗ owns (c : Thread nD τ) arg3 fullShare (o) ∗ held c arg4 arg5 arg6 arg7 arg8 arg9 arg10 arg11 arg12 (step2 x s)) -∗ K ⟨⟩))
      ⊢ wp frame (wpE (defs₀ (F := F)) Variants.none c none) E (cc0__oc_body i arg2 harg2 arg3 harg3 arg4 harg4 arg5 harg5 arg6 harg6 arg7 harg7 arg8 harg8 arg9 harg9 arg10 harg10 arg11 harg11 arg12 harg12) K := by
  simp only [cc0__oc_body_eq_skeleton]; unfold cc0__oc_body_skel
  unfold held owns
  iintro ⟨⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, %g, %hg, %f12, %hf12, H12⟩, Hk⟩
  sl_exec (disch := first | sl_exact hc1 | sl_exact hc2 | sl_exact hc3 | sl_exact hc4 | sl_exact hc5)
  sl_step
  iapply Hk
  isplitl [H2]
  · iexists _; isplitr; rotate_left
    · iexact H2
    · ipureintro
      exact hf2
  isplitl [H3]
  · iexists _; isplitr; rotate_left
    · iexact H3
    · ipureintro
      exact hf3
  isplitl [H4]
  · iexists _; isplitr; rotate_left
    · iexact H4
    · ipureintro
      exact hf4
  isplitl [H5]
  · iexists _; isplitr; rotate_left
    · iexact H5
    · ipureintro
      exact hf5
  isplitl [H6]
  · iexists _; isplitr; rotate_left
    · iexact H6
    · ipureintro
      exact hf6
  isplitl [H7]
  · iexists _; isplitr; rotate_left
    · iexact H7
    · ipureintro
      exact hf7
  isplitl [H8]
  · iexists _; isplitr; rotate_left
    · iexact H8
    · ipureintro
      exact hf8
  isplitl [H9]
  · iexists _; isplitr; rotate_left
    · iexact H9
    · ipureintro
      exact hf9
  isplitl [H10]
  · iexists _; isplitr; rotate_left
    · iexact H10
    · ipureintro
      exact hf10
  isplitl [H11]
  · iexists _; isplitr; rotate_left
    · iexact H11
    · ipureintro
      exact hf11
  iapply (words_of c arg12 _ (step2 x s))
  isplitr
  rotate_left
  · iexact H12
  · ipureintro
    constructor <;> ((try delta run_pass2.sl.r run_pass2.sl.r_1 run_pass2.sl.r_2 run_pass2.sl.r_3 run_pass2.sl.r_4 run_pass2.sl.r_5 run_pass2.sl.r_6 run_pass2.sl.r_7 run_pass2.sl.r_8 run_pass2.sl.r_9 run_pass2.sl.r_10 run_pass2.sl.f; simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]); try rfl)

/-- The last point: its block of the third pass, then the loss. -/
theorem run_last (c : Dev nD) (i : grid0.Coords) (arg2 : Memref sig .tc .vmem S2000x16 .f32) (harg2 : arg2.IsWhole) (arg3 : Memref sig .tc .vmem S1x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .smem S8 .f32) (harg12 : arg12.IsWhole)
    (hc1 : ¬(k0_cond1 i = 1#1)) (hc2 : ¬(Scalar.cmpi .ne (Scalar.extui (Scalar.cmpi .eq (BitVec.ofNat 32 (i 0).val) 0#32)) 0#32 = 1#1)) (hc3 : ¬(Scalar.cmpi .ne (Scalar.extui (Scalar.cmpi .eq (BitVec.ofNat 32 (i 0).val) 1#32)) 0#32 = 1#1)) (hc4 : k0_cond4 i = 1#1) (hc5 : k0_cond5 i = 1#1)
    (x : Vec F S2000x16 .f32) (o : Vec F S1x1 .f32) (s : St F) (E : Set ℕ) (K : PUnit → sProp 𝕄) :
    iprop(owns (c : Thread nD τ) arg2 fullShare x ∗ owns (c : Thread nD τ) arg3 fullShare o ∗ held c arg4 arg5 arg6 arg7 arg8 arg9 arg10 arg11 arg12 s
        ∗ (iprop(owns (c : Thread nD τ) arg2 fullShare x ∗ owns (c : Thread nD τ) arg3 fullShare (fin (step2 x s)) ∗ held c arg4 arg5 arg6 arg7 arg8 arg9 arg10 arg11 arg12 (step2 x s)) -∗ K ⟨⟩))
      ⊢ wp frame (wpE (defs₀ (F := F)) Variants.none c none) E (cc0__oc_body i arg2 harg2 arg3 harg3 arg4 harg4 arg5 harg5 arg6 harg6 arg7 harg7 arg8 harg8 arg9 harg9 arg10 harg10 arg11 harg11 arg12 harg12) K := by
  simp only [cc0__oc_body_eq_skeleton]; unfold cc0__oc_body_skel
  unfold held owns
  iintro ⟨⟨%f2, %hf2, H2⟩, ⟨%f3, %hf3, H3⟩, ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, %g, %hg, %f12, %hf12, H12⟩, Hk⟩
  sl_exec (disch := first | sl_exact hc1 | sl_exact hc2 | sl_exact hc3 | sl_exact hc4 | sl_exact hc5)
  sl_step
  iapply Hk
  isplitl [H2]
  · iexists _; isplitr; rotate_left
    · iexact H2
    · ipureintro
      exact hf2
  isplitl [H3]
  · iexists _; isplitr; rotate_left
    · iexact H3
    · ipureintro
      try delta run_last.sl.r run_last.sl.r_1 run_last.sl.r_2 run_last.sl.r_3 run_last.sl.r_4 run_last.sl.r_5 run_last.sl.r_6 run_last.sl.r_7 run_last.sl.r_8 run_last.sl.r_9 run_last.sl.r_10 run_last.sl.r_11 run_last.sl.r_12 run_last.sl.r_13 run_last.sl.r_14 run_last.sl.r_15 run_last.sl.r_16 run_last.sl.r_17 run_last.sl.r_18 run_last.sl.r_19 run_last.sl.f run_last.sl.f_1 run_last.sl.f_2
      simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]
      try rfl
  isplitl [H4]
  · iexists _; isplitr; rotate_left
    · iexact H4
    · ipureintro
      exact hf4
  isplitl [H5]
  · iexists _; isplitr; rotate_left
    · iexact H5
    · ipureintro
      exact hf5
  isplitl [H6]
  · iexists _; isplitr; rotate_left
    · iexact H6
    · ipureintro
      exact hf6
  isplitl [H7]
  · iexists _; isplitr; rotate_left
    · iexact H7
    · ipureintro
      exact hf7
  isplitl [H8]
  · iexists _; isplitr; rotate_left
    · iexact H8
    · ipureintro
      exact hf8
  isplitl [H9]
  · iexists _; isplitr; rotate_left
    · iexact H9
    · ipureintro
      exact hf9
  isplitl [H10]
  · iexists _; isplitr; rotate_left
    · iexact H10
    · ipureintro
      exact hf10
  isplitl [H11]
  · iexists _; isplitr; rotate_left
    · iexact H11
    · ipureintro
      exact hf11
  iapply (words_of c arg12 _ (step2 x s))
  isplitr
  rotate_left
  · iexact H12
  · ipureintro
    constructor <;> ((try delta run_last.sl.r run_last.sl.r_1 run_last.sl.r_2 run_last.sl.r_3 run_last.sl.r_4 run_last.sl.r_5 run_last.sl.r_6 run_last.sl.r_7 run_last.sl.r_8 run_last.sl.r_9 run_last.sl.r_10 run_last.sl.r_11 run_last.sl.r_12 run_last.sl.r_13 run_last.sl.r_14 run_last.sl.r_15 run_last.sl.r_16 run_last.sl.r_17 run_last.sl.r_18 run_last.sl.r_19 run_last.sl.f run_last.sl.f_1 run_last.sl.f_2; simp -proj (disch := decide) only [View.readCov, rd_row, rd_one, ld_row, ld_blk, ld_word, rd_word_hit, rd_word_miss, rd_nil, hf2, hf3, hf4, hf5, hf6, hf7, hf8, hf9, hf10, hf11, hf12, hg.h0, hg.h1, hg.h2, hg.h3]); try rfl)

end Cert.KernelIdeal.Body

end
-- ==== Proof.KernelIdealRun.lean ====
module

public import proofs.«01_k».proof.Proof.KernelIdealRuns
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pipeline.Quiescent

@[expose] public section

set_option maxRecDepth 16384

/-!
# The run of the kernel

The state after each grid point (`stAt`), the pipeline's proof data over it, and the launch: every execution ends with the
arguments as they were, the result at the loss that the last state gives, and every counter at zero.
-/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which pass a point is in -/

theorem crd0 (t : Fin cfg0.N) : (grid0.coords t 0).val = t.val / 50 % 3 := Pipeline.Grid.coords_val t 0 (by decide) rfl
theorem crd1 (t : Fin cfg0.N) : (grid0.coords t 1).val = t.val / 1 % 50 := Pipeline.Grid.coords_val t 1 (by decide) rfl
theorem point_lt (t : Fin cfg0.N) : t.val < 150 := Nat.lt_of_lt_of_eq t.isLt N_0

/-- The first point sets the state. -/
theorem cond_init (t : Fin cfg0.N) : k0_cond1 (grid0.coords t) = 1#1 ↔ t.val = 0 := by
  have ht := point_lt t
  have e0 := crd0 t
  have e1 := crd1 t
  simp only [k0_cond1, e0, e1]
  word_cmp
/-- The first fifty points are the first pass, -/
theorem cond_pass0 (t : Fin cfg0.N) :
    Scalar.cmpi .ne (Scalar.extui (Scalar.cmpi .eq (BitVec.ofNat 32 (grid0.coords t 0).val) 0#32)) 0#32 = 1#1 ↔ t.val < 50 := by
  have ht := point_lt t
  have e0 := crd0 t
  simp only [e0]
  word_cmp
/-- the next fifty the second, -/
theorem cond_pass1 (t : Fin cfg0.N) :
    Scalar.cmpi .ne (Scalar.extui (Scalar.cmpi .eq (BitVec.ofNat 32 (grid0.coords t 0).val) 1#32)) 0#32 = 1#1
      ↔ 50 ≤ t.val ∧ t.val < 100 := by
  have ht := point_lt t
  have e0 := crd0 t
  simp only [e0]
  word_cmp
/-- and the last fifty the third. -/
theorem cond_pass2 (t : Fin cfg0.N) : k0_cond4 (grid0.coords t) = 1#1 ↔ 100 ≤ t.val := by
  have ht := point_lt t
  have e0 := crd0 t
  simp only [k0_cond4, e0]
  word_cmp
/-- The last block of a pass. -/
theorem cond_last (t : Fin cfg0.N) : k0_cond5 (grid0.coords t) = 1#1 ↔ t.val % 50 = 49 := by
  have ht := point_lt t
  have e1 := crd1 t
  simp only [k0_cond5, e1]
  word_cmp

/-! ## The state after each point -/

/-- What point `n` makes of the state, from its block `x`. -/
def stepAt (n : ℕ) (x : Vec F S2000x16 .f32) (s : St F) : St F :=
  if n < 50 then step0 x s else if n < 100 then step1 (BitVec.ofNat 32 (n % 50)) x s else step2 x s

/-- The state after the first `n` points, over the blocks `X`. -/
def runSt (X : ℕ → Vec F S2000x16 .f32) : ℕ → St F
  | 0 => init
  | n + 1 => stepAt n (X n) (runSt X n)

/-- The block of the packed table that point `n` reads. -/
def blkAt (c : Dev nD) (n : ℕ) : Vec F S2000x16 .f32 :=
  iblk m c 0 ⟨n % 150, Nat.lt_of_lt_of_eq (Nat.mod_lt n (by decide)) N_0.symm⟩

theorem iblk_eq (c : Dev nD) (t : Fin cfg0.N) : iblk m c 0 t = blkAt m c t.val := by
  unfold blkAt
  congr 1
  exact Fin.ext (Nat.mod_eq_of_lt (point_lt t)).symm

/-- The state after the first `n` points on core `c`. -/
def stAt (c : Dev nD) (n : ℕ) : St F := runSt (blkAt m c) n

theorem stAt_succ (c : Dev nD) (n : ℕ) : stAt m c (n + 1) = stepAt n (blkAt m c n) (stAt m c n) := rfl

/-- What the result's buffer holds after point `n`, where the body stores it. -/
def outAt (c : Dev nD) (n : ℕ) : Vec F S1x1 .f32 := if n = 149 then fin (stAt m c 150) else k0_pay39

/-! ## The invariant between points -/

abbrev ms0_0 (t : Fin cfg0.N) : Memref sig .tc .vmem S2000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)

/-- The carried state, in the kernel's own buffers. -/
abbrev heldAt (c : Dev nD) (s : St F) : sProp 𝕄 :=
  held c (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) s

/-- The kernel's own buffers at anything. -/
abbrev heldJunk (c : Dev nD) : sProp 𝕄 :=
  heldAny (F := F) c (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8)

theorem PhiA_eq (c : Dev nD) :
    (Pipeline.ΦA spec0 c : sProp 𝕄) = iprop(heldJunk (F := F) c ∗ (∃ r, prngReg c r)) := by
  unfold Pipeline.ΦA; rw [scopedRest0_eq]; unfold heldJunk heldAny; simp only [owns_whole]; try rfl

/-- Before the first point the kernel's buffers hold anything; before point `n > 0` they hold the state after `n` points. -/
def PhiS (c : Dev nD) : (n : ℕ) → n ≤ cfg0.N → sProp 𝕄
  | 0, _ => Pipeline.ΦA spec0 c
  | n + 1, hn => iprop(heldAt c (stAt m c (n + 1)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(heldAt c (stAt m c n) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = outAt m c t.val := by dsimp only [dats]

theorem before0_0 (c : Dev nD) (t : Fin cfg0.N) (d) : (dats m 0 c).before 0 t d = iblk m c 0 t :=
  before0_0_of m (dats m 0 c) (A_eq m c 0) (after0_0 m c) t d

theorem live0_0 (t : Fin cfg0.N) : cfg0.idle 0 (grid0.coords t) = false := rfl

/-- The result's buffer is stored at the first point and at the last, -/
theorem live0_1 (t : Fin cfg0.N) (h : t.val = 0 ∨ t.val = 149) : cfg0.idle 1 (grid0.coords t) = false := by
  show (!(k0_cond1 (grid0.coords t) == 1#1) && !(k0_cond4 (grid0.coords t) == 1#1 && k0_cond5 (grid0.coords t) == 1#1)) = false
  rcases h with h | h
  · rw [(cond_init t).mpr h]; rfl
  · rw [(cond_pass2 t).mpr (by omega), (cond_last t).mpr (by omega)]; simp

/-- and at no other. -/
theorem idle0_1 (t : Fin cfg0.N) (h0 : t.val ≠ 0) (h1 : t.val ≠ 149) : cfg0.idle 1 (grid0.coords t) = true := by
  show (!(k0_cond1 (grid0.coords t) == 1#1) && !(k0_cond4 (grid0.coords t) == 1#1 && k0_cond5 (grid0.coords t) == 1#1)) = true
  have ht := point_lt t
  have a : (k0_cond1 (grid0.coords t) == 1#1) = false := beq_eq_false_iff_ne.mpr fun h => h0 ((cond_init t).mp h)
  have b : (k0_cond4 (grid0.coords t) == 1#1 && k0_cond5 (grid0.coords t) == 1#1) = false := by
    rw [Bool.and_eq_false_iff]
    by_cases h : 100 ≤ t.val
    · exact .inr (beq_eq_false_iff_ne.mpr fun h' => by have := (cond_last t).mp h'; omega)
    · exact .inl (beq_eq_false_iff_ne.mpr fun h' => h ((cond_pass2 t).mp h'))
  rw [a, b]; rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem leaves0 (c : Dev nD) (t : Fin cfg0.N) :
    (dats m 0 c).leavesExact 0 t = owns (c : Thread nD τ) (ms0_0 t) fullShare (iblk m c 0 t) := by
  unfold Dat.leavesExact; rw [live0_0 t, after0_0]

theorem leaves1_live (c : Dev nD) (t : Fin cfg0.N) (h : t.val = 0 ∨ t.val = 149) :
    (dats m 0 c).leavesExact 1 t = owns (c : Thread nD τ) (ms0_1 t) fullShare (outAt m c t.val) := by
  unfold Dat.leavesExact; rw [live0_1 t h, after0_1]

theorem leaves1_idle (c : Dev nD) (t : Fin cfg0.N) (h0 : t.val ≠ 0) (h1 : t.val ≠ 149) :
    (dats m 0 c).leavesExact 1 t = iprop(∃ d, owns (c : Thread nD τ) (ms0_1 t) fullShare ((dats m 0 c).before 1 t d)) := by
  have ht := point_lt t
  exact (dats m 0 c).leavesExact_idle 1 t (idle0_1 t h0 h1) (by
    cases hf : (cfg0.win 1).flush t
    · rfl
    · have := (flush0_1 t).mp hf; omega)

set_option maxHeartbeats 1600000 in
/-- The body at any point takes the state before it to the state after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), leaves0, iblk_eq,
    stAt_succ]
  have ht := point_lt t
  have hb : ∀ n, (grid0.coords t 1).val = n → BitVec.ofNat 32 (grid0.coords t 1).val = BitVec.ofNat 32 n := fun n h => by rw [h]
  have e1 : (grid0.coords t 1).val = t.val % 50 := by rw [crd1, Nat.div_one]
  rw [PhiS_castSucc m c t]
  by_cases hz : t.val = 0
  · rw [PhiS_zero m c _ _ hz, PhiA_eq, leaves1_live m c t (.inl hz)]
    have hs : stepAt t.val (blkAt m c t.val) (stAt m c t.val) = step0 (blkAt m c t.val) init := by
      rw [hz]; rfl
    have ho : outAt m c t.val = k0_pay39 := by unfold outAt; rw [if_neg (by omega)]
    rw [hs, ho]
    iintro ⟨⟨HS, Hg⟩, Ho, ⟨%d0, H0⟩, ⟨%d1, H1⟩⟩
    iapply (run_first c (grid0.coords t) _ _ _ _ _ _ _ _ _ _ _ _ _ _ _ _ _ _ _ _ _ _ ((cond_init t).mpr hz)
      ((cond_pass0 t).mpr (by omega)) (fun h => by have := (cond_pass1 t).mp h; omega)
      (fun h => by have := (cond_pass2 t).mp h; omega) (blkAt m c t.val) Set.univ _)
    isplitl [H0]; · iexact H0
    isplitl [H1]; · iexists _; iexact H1
    isplitl [HS]; · iexact HS
    iintro ⟨H0, H1, HS⟩
    isplitl [HS Hg]
    · isplitl [HS]; · iexact HS
      iexact Hg
    isplitl [Ho]; · iexact Ho
    isplitl [H0]; · iexact H0
    iexact H1
  rw [PhiS_pos m c _ _ hz]
  by_cases hl : t.val = 149
  · rw [leaves1_live m c t (.inr hl)]
    have hs : stepAt t.val (blkAt m c t.val) (stAt m c t.val) = step2 (blkAt m c t.val) (stAt m c t.val) := by
      unfold stepAt; rw [if_neg (by omega), if_neg (by omega)]
    have ho : outAt m c t.val = fin (step2 (blkAt m c t.val) (stAt m c t.val)) := by
      unfold outAt; rw [if_pos hl, ← hs, ← stAt_succ, hl]
    rw [hs, ho]
    iintro ⟨⟨HS, Hg⟩, Ho, ⟨%d0, H0⟩, ⟨%d1, H1⟩⟩
    iapply (run_last c (grid0.coords t) _ _ _ _ _ _ _ _ _ _ _ _ _ _ _ _ _ _ _ _ _ _ (fun h => hz ((cond_init t).mp h))
      (fun h => by have := (cond_pass0 t).mp h; omega) (fun h => by have := (cond_pass1 t).mp h; omega)
      ((cond_pass2 t).mpr (by omega)) ((cond_last t).mpr (by omega)) (blkAt m c t.val) _ (stAt m c t.val) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    iexact H1
  rw [leaves1_idle m c t hz hl]
  by_cases h0 : t.val < 50
  · have hs : stepAt t.val (blkAt m c t.val) (stAt m c t.val) = step0 (blkAt m c t.val) (stAt m c t.val) := by
      unfold stepAt; rw [if_pos h0]
    rw [hs]
    iintro ⟨⟨HS, Hg⟩, Ho, ⟨%d0, H0⟩, ⟨%d1, H1⟩⟩
    iapply (run_pass0 c (grid0.coords t) _ _ _ _ _ _ _ _ _ _ _ _ _ _ _ _ _ _ _ _ _ _ (fun h => hz ((cond_init t).mp h))
      ((cond_pass0 t).mpr h0) (fun h => by have := (cond_pass1 t).mp h; omega)
      (fun h => by have := (cond_pass2 t).mp h; omega) (blkAt m c t.val) _ (stAt m c t.val) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    iexists _; iexact H1
  by_cases h1 : t.val < 100
  · have hs : stepAt t.val (blkAt m c t.val) (stAt m c t.val)
        = step1 (BitVec.ofNat 32 (grid0.coords t 1).val) (blkAt m c t.val) (stAt m c t.val) := by
      unfold stepAt; rw [if_neg h0, if_pos h1, e1]
    rw [hs]
    iintro ⟨⟨HS, Hg⟩, Ho, ⟨%d0, H0⟩, ⟨%d1, H1⟩⟩
    iapply (run_pass1 c (grid0.coords t) _ _ _ _ _ _ _ _ _ _ _ _ _ _ _ _ _ _ _ _ _ _ (fun h => hz ((cond_init t).mp h))
      (fun h => h0 ((cond_pass0 t).mp h)) ((cond_pass1 t).mpr (by omega))
      (fun h => by have := (cond_pass2 t).mp h; omega) (blkAt m c t.val) _ (stAt m c t.val) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    iexists _; iexact H1
  · have hs : stepAt t.val (blkAt m c t.val) (stAt m c t.val) = step2 (blkAt m c t.val) (stAt m c t.val) := by
      unfold stepAt; rw [if_neg h0, if_neg h1]
    rw [hs]
    iintro ⟨⟨HS, Hg⟩, Ho, ⟨%d0, H0⟩, ⟨%d1, H1⟩⟩
    iapply (run_pass2 c (grid0.coords t) _ _ _ _ _ _ _ _ _ _ _ _ _ _ _ _ _ _ _ _ _ _ (fun h => hz ((cond_init t).mp h))
      (fun h => h0 ((cond_pass0 t).mp h)) (fun h => by have := (cond_pass1 t).mp h; omega)
      ((cond_pass2 t).mpr (by omega)) (fun h => by have := (cond_last t).mp h; omega)
      (blkAt m c t.val) _ (stAt m c t.val) Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    iexists _; iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 150 := N_0; omega), PhiA_eq]
  iintro ⟨HS, Hg⟩
  isplitl [HS]
  · iapply (held_any c (Memref.whole cc0_scratch0) (Memref.whole cc0_scratch1) (Memref.whole cc0_scratch2)
      (Memref.whole cc0_scratch3) (Memref.whole cc0_scratch4) (Memref.whole cc0_scratch5) (Memref.whole cc0_scratch6)
      (Memref.whole cc0_scratch7) (Memref.whole cc0_scratch8) _)
    iexact HS
  iexact Hg

/-! ## The launch -/

set_option backward.isDefEq.respectTransparency.types false in
/-- Every execution ends with the pipeline's arrays at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and the counters at zero. -/
theorem frame_zero : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_with_sems (Gen.frame_of m ρ (dats m) (A_eq m)) (run_main m ρ)

/-! ## The result -/

/-- The last point. -/
def tLast : Fin cfg0.N := ⟨cfg0.N - 1, by rw [show cfg0.N = 150 from N_0]; decide⟩

theorem tLast_val : tLast.val = 149 := by
  show cfg0.N - 1 = 149
  rw [show cfg0.N = 150 from N_0]

/-- The result's array is written back once, whole, after the last point: it ends at the loss. -/
theorem final_out (c : Dev nD) : (dats m 0 c).arrAt 1 cfg0.N = fin (stAt m c 150) := by
  refine (dats m 0 c).arrAt_eq_of_after_last 1 tLast (by decide +kernel) _ fun j => ?_
  blk_simp
  rw [after0_1, tLast_val]
  unfold outAt
  rw [if_pos rfl]

theorem value : θ_run defs (onTc (τ := τ) (main (F := F))) ⟨m, fun _ => 0, ρ⟩ (fun r => ∀ c : Dev nD,
      r.2.mem ((c.tc : Thread nD τ).loc main_v4) = fin (stAt m c 150)
      ∧r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1.1 c).1 1).trans (final_out m c), h.2 c⟩)
    (θ_run_and (run_main m ρ)
      (Gen.frame_of m ρ (dats m) (A_eq m) ((θ_run defs _ _).mono (fun _ h => h.1) (run_main m ρ))))

end Cert.KernelIdeal.Body

end
-- ==== Proof.Spec.lean ====
module

public import proofs.«01_k».proof.Proof.Gen.KernelIdeal.Skeleton
public import Idealize.ShloMosaic.Lib.Pointwise

@[expose] public section

/-!
# The loss as a formula over the extended reals

`Data` holds the hits as plain functions of the row number. `Data.loss` is the object condensation loss written with sums
over the rows and over the 256 objects. Both programs are shown to compute it.
-/

noncomputable section

namespace Cert.Spec

open Idealize.ShloMosaic

/-- The columns of the hits: the raw score, the two cluster coordinates, the predicted and the true energy, position and
time, and the object number. -/
structure Data where
  b : ℕ → EReal
  x0 : ℕ → EReal
  x1 : ℕ → EReal
  pe : ℕ → EReal
  px : ℕ → EReal
  py : ℕ → EReal
  pt : ℕ → EReal
  te : ℕ → EReal
  tx : ℕ → EReal
  ty : ℕ → EReal
  tt : ℕ → EReal
  id : ℕ → BitVec 32

/-- The lower bound of the score, the single precision number next to one millionth. -/
abbrev lo : EReal := Ideal.ofBits .f32 0x358637BD#32
/-- The upper bound of the score. -/
abbrev hi : EReal := Ideal.ofBits .f32 0x3F7FFFEF#32
/-- One half. -/
abbrev half : EReal := Ideal.ofBits .f32 0x3F000000#32
/-- Ten. -/
abbrev ten : EReal := Ideal.ofBits .f32 0x41200000#32
/-- The single precision number next to one billionth. -/
abbrev tiny : EReal := Ideal.ofBits .f32 0x3089705F#32
/-- One hundred thousand, as a constant of the programs. -/
abbrev big : EReal := Ideal.ofBits .f32 0x47C35000#32
/-- Minus one. -/
abbrev mone : EReal := Ideal.ofBits .f32 0xBF800000#32

/-- A list of numbers as a function of every row number. -/
def row {α : Type} (d : α) (f : Fin 100000 → α) (i : ℕ) : α := if h : i < 100000 then f ⟨i, h⟩ else d

theorem row_at {α : Type} (d : α) (f : Fin 100000 → α) (i : ℕ) (h : i < 100000) : row d f i = f ⟨i, h⟩ := dif_pos h

/-- The hits with the given columns. -/
def Data.of (b x0 x1 pe px py pt te tx ty tt : Fin 100000 → EReal) (id : Fin 100000 → BitVec 32) : Data where
  b := row 0 b
  x0 := row 0 x0
  x1 := row 0 x1
  pe := row 0 pe
  px := row 0 px
  py := row 0 py
  pt := row 0 pt
  te := row 0 te
  tx := row 0 tx
  ty := row 0 ty
  tt := row 0 tt
  id := row 0#32 id

namespace Data

variable (D : Data)

/-- Row `i` carries the number of object `k`. -/
def oh (k : Fin 256) (i : ℕ) : Prop := D.id i = BitVec.ofNat 32 k
/-- Row `i` is noise. -/
def noise (i : ℕ) : Prop := D.id i = 0#32

instance (k : Fin 256) (i : ℕ) : Decidable (D.oh k i) := inferInstanceAs (Decidable (D.id i = BitVec.ofNat 32 k))
instance (i : ℕ) : Decidable (D.noise i) := inferInstanceAs (Decidable (D.id i = 0#32))

/-- The clipped score. -/
def bt (i : ℕ) : EReal := min hi (max lo (D.b i))

/-- The clipped score, minus one on noise. -/
def bm (i : ℕ) : EReal := if D.noise i then mone else D.bt i

/-- The clipped score, zero on noise. -/
def pw (i : ℕ) : EReal := if D.noise i then 0 else D.bt i

/-- What row `i` adds to the count of object `k`. -/
def gseg (k : Fin 256) (i : ℕ) : EReal := if D.oh k i ∧ ¬ D.noise i then 1 else 0

/-- What row `i` offers to the largest score of object `k`. -/
def gbk (k : Fin 256) (i : ℕ) : EReal := if D.oh k i then D.bm i else ⊥

/-- The weighted payload error of row `i`. -/
def pay (i : ℕ) : EReal :=
  max (if ten < D.te i then 1 else Ideal.div (Ideal.div (D.te i - half) ten * ten) (Ideal.ofBits .f32 0x41180000#32)) 0
      * (if D.te i + 1 = 0 then 0 else Ideal.div ((D.te i - D.pe i) * (D.te i - D.pe i)) (if D.te i + 1 = 0 then 1 else D.te i + 1))
    + Ideal.div ((D.tx i - D.px i) * (D.tx i - D.px i) + (D.ty i - D.py i) * (D.ty i - D.py i)) (Ideal.ofBits .f32 0x42C80000#32)
    + (D.tt i - D.pt i) * (D.tt i - D.pt i)

/-- What row `i` adds to the payload numerator of object `k`. -/
def gpn (k : Fin 256) (i : ℕ) : EReal := if D.oh k i then D.pw i * D.pay i else 0

/-- What row `i` adds to the payload denominator of object `k`. -/
def gpd (k : Fin 256) (i : ℕ) : EReal := if D.oh k i then D.pw i else 0

/-- What row `i` adds to the noise scores. -/
def gw0 (i : ℕ) : EReal := if D.noise i then D.bt i else 0

/-- What row `i` adds to the noise count. -/
def gw1 (i : ℕ) : EReal := if D.noise i then 1 else 0

/-- The hits of object `k`. -/
def seg (k : Fin 256) : EReal := ∑ i ∈ Finset.range 100000, D.gseg k i
/-- The largest score of object `k`. -/
def bk (k : Fin 256) : EReal := (Finset.range 100000).fold max ⊥ (D.gbk k)
/-- The payload numerator. -/
def pn (k : Fin 256) : EReal := ∑ i ∈ Finset.range 100000, D.gpn k i
/-- The payload denominator. -/
def pd (k : Fin 256) : EReal := ∑ i ∈ Finset.range 100000, D.gpd k i
/-- The noise scores' sum. -/
def w0 : EReal := ∑ i ∈ Finset.range 100000, D.gw0 i
/-- The noise rows' number. -/
def w1 : EReal := ∑ i ∈ Finset.range 100000, D.gw1 i

/-- Row `i` has the largest score of object `k`. -/
def isal (k : Fin 256) (i : ℕ) : Prop := D.oh k i ∧ D.bm i = D.bk k ∧ ¬ D.noise i
/-- Object `k` counts: it is not object zero and has a hit. -/
def valid (k : Fin 256) : Prop := 0 < D.seg k ∧ k ≠ 0

instance (k : Fin 256) : Decidable (D.valid k) := inferInstanceAs (Decidable (0 < D.seg k ∧ k ≠ 0))

/-- The first row with the largest score of object `k`. -/
def al (k : Fin 256) : ℕ := sInf {i | i < 100000 ∧ D.isal k i}

/-- The charge of row `i`. -/
def q (i : ℕ) : EReal := Ideal.atanh (D.bt i) * Ideal.atanh (D.bt i) + half
/-- The squared distance of row `i` from the first best row of object `k`. -/
def d2 (i : ℕ) (k : Fin 256) : EReal :=
  (D.x0 i - D.x0 (D.al k)) * (D.x0 i - D.x0 (D.al k)) + (D.x1 i - D.x1 (D.al k)) * (D.x1 i - D.x1 (D.al k))

/-- One attraction term. -/
def gatt (i : ℕ) (k : Fin 256) : EReal :=
  if (D.oh k i ∧ ¬ D.noise i) ∧ D.valid k then D.d2 i k * (D.q i * D.q (D.al k)) else 0

/-- One repulsion term. -/
def grep (i : ℕ) (k : Fin 256) : EReal :=
  if ¬ (D.oh k i ∧ ¬ D.noise i) ∧ D.valid k then max (1 - Ideal.sqrt (D.d2 i k + lo)) 0 * (D.q i * D.q (D.al k)) else 0

/-- One where object `k` counts, else zero. -/
def vv (k : Fin 256) : EReal := if D.valid k then 1 else 0

/-- The number of objects that count. -/
def nv : EReal := ∑ k, D.vv k

/-- The payload of object `k`. -/
def payk (k : Fin 256) : EReal := if D.pd k = 0 then 0 else Ideal.div (D.pn k) (if D.pd k = 0 then 1 else D.pd k)

/-- The loss. -/
def loss : EReal :=
  ((Ideal.div (∑ i ∈ Finset.range 100000, ∑ k, D.gatt i k) ((∑ k, D.seg k * D.vv k) + tiny)
      + Ideal.div (∑ i ∈ Finset.range 100000, ∑ k, D.grep i k) (big * D.nv + tiny))
    + (Ideal.div (∑ k, if D.valid k then 1 - min 1 (max 0 (D.bk k)) else 0) (D.nv + tiny)
      + Ideal.div D.w0 (D.w1 + tiny)))
    + Ideal.div (∑ k, if D.valid k then D.payk k else 0) (D.nv + tiny)

end Data

end Cert.Spec

end
-- ==== Proof.Facts.lean ====
module

public import proofs.«01_k».proof.Proof.Spec
public import Idealize.ShloMosaic.Lib.IdealHost

@[expose] public section

/-!
# Numbers: the printed constants, the clipped score and its charge
-/

noncomputable section

namespace Cert.Spec

open Idealize.ShloMosaic

theorem bot_bits : Ideal.ofBits .f32 0xFF800000#32 = ⊥ := by simp [Ideal.ofBits, Ideal.ieee]
theorem top_bits : Ideal.ofBits .f32 0x7F800000#32 = ⊤ := by simp [Ideal.ofBits, Ideal.ieee]

theorem lo_eq : lo = (((2 ^ 23 + 407485) / 2 ^ 43 : ℝ) : EReal) := by
  simp [lo, Ideal.ofBits, Ideal.ieee, -EReal.coe_mul]; norm_num

theorem hi_eq : hi = ((16777199 / 2 ^ 24 : ℝ) : EReal) := by
  simp [hi, Ideal.ofBits, Ideal.ieee, -EReal.coe_mul]; norm_num

theorem half_eq : half = ((1 / 2 : ℝ) : EReal) := by
  simp [half, Ideal.ofBits, Ideal.ieee, -EReal.coe_mul]; norm_num

theorem big_eq : big = ((100000 : ℝ) : EReal) := by
  simp [big, Ideal.ofBits, Ideal.ieee, -EReal.coe_mul]; norm_num

theorem tile_eq : Ideal.ofBits .f32 0x44FA0000#32 = ((2000 : ℝ) : EReal) := by
  simp [Ideal.ofBits, Ideal.ieee, -EReal.coe_mul]; norm_num

theorem lo_le_hi : lo ≤ hi := by
  rw [lo_eq, hi_eq]; exact EReal.coe_le_coe_iff.2 (by norm_num)

/-- A clipped number is a real number strictly between zero and one. -/
theorem clip_real (y : EReal) : ∃ r : ℝ, min hi (max lo y) = (r : EReal) ∧ 0 < r ∧ r < 1 := by
  have h1 : lo ≤ min hi (max lo y) := le_min lo_le_hi (le_max_left _ _)
  have h2 : min hi (max lo y) ≤ hi := min_le_left _ _
  generalize min hi (max lo y) = z at h1 h2
  rw [lo_eq] at h1
  rw [hi_eq] at h2
  induction z using EReal.rec with
  | bot => exact absurd h1 (not_le.2 (EReal.bot_lt_coe _))
  | top => exact absurd h2 (not_le.2 (EReal.coe_lt_top _))
  | coe r =>
    have h1 := EReal.coe_le_coe_iff.1 h1
    have h2 := EReal.coe_le_coe_iff.1 h2
    exact ⟨r, rfl, by norm_num at h1; linarith, by norm_num at h2; linarith⟩

/-- Clipping twice is clipping once. -/
theorem clip_clip (y : EReal) : min hi (max lo (min hi (max lo y))) = min hi (max lo y) := by
  have h1 : lo ≤ min hi (max lo y) := le_min lo_le_hi (le_max_left _ _)
  rw [max_eq_right h1, min_eq_right (min_le_left _ _)]

/-- Half the logarithm of `(1 + y) / (1 - y)` is the inverse hyperbolic tangent. -/
theorem half_log (y : EReal) : half * Ideal.log (Ideal.div (1 + min hi (max lo y)) (1 - min hi (max lo y)))
    = Ideal.atanh (min hi (max lo y)) := by
  obtain ⟨r, hr, h0, h1⟩ := clip_real y
  rw [hr, half_eq, ← EReal.coe_one, ← EReal.coe_add, ← EReal.coe_sub]
  have hd : (1 - r : ℝ) ≠ 0 := by linarith
  have hp : 0 < (1 + r) / (1 - r) := div_pos (by linarith) (by linarith)
  rw [Ideal.div_coe hd, ← EReal.coe_mul, Ideal.log_coe, if_neg (by
    rw [mul_one_div]; exact not_le.2 hp), ← EReal.coe_mul, Ideal.atanh_coe, if_neg (by linarith),
    if_neg (by linarith), if_pos ⟨by linarith, h1⟩, EReal.coe_eq_coe_iff, mul_one_div]
  rw [Real.artanh, Real.log_sqrt hp.le]
  ring

end Cert.Spec

end
-- ==== Proof.KernelIdealTile.lean ====
module

public import proofs.«01_k».proof.Proof.KernelIdealStep
public import proofs.«01_k».proof.Proof.Facts

@[expose] public section

set_option maxRecDepth 16384

/-!
# One step of the body over the extended reals

A block holds 2000 rows of the hits. What each of the three steps makes of the eight rows and the four words is written
with the functions of `Spec` at those rows.
-/

noncomputable section

namespace Cert.KernelIdeal.Body

open Idealize.ShloMosaic Idealize.SL.Sem Cert.KernelIdeal Cert.KernelIdeal.Gen Cert.Spec

/-- The block `x` holds the rows of `D` from row `o` on. -/
structure Blk (D : Data) (o : ℕ) (x : FVec Ideal S2000x16 .f32) : Prop where
  b : ∀ r : Fin 2000, x (ix2 r 0) = D.b (o + r)
  x0 : ∀ r : Fin 2000, x (ix2 r 1) = D.x0 (o + r)
  x1 : ∀ r : Fin 2000, x (ix2 r 2) = D.x1 (o + r)
  pe : ∀ r : Fin 2000, x (ix2 r 3) = D.pe (o + r)
  px : ∀ r : Fin 2000, x (ix2 r 4) = D.px (o + r)
  py : ∀ r : Fin 2000, x (ix2 r 5) = D.py (o + r)
  pt : ∀ r : Fin 2000, x (ix2 r 6) = D.pt (o + r)
  te : ∀ r : Fin 2000, x (ix2 r 7) = D.te (o + r)
  tx : ∀ r : Fin 2000, x (ix2 r 8) = D.tx (o + r)
  ty : ∀ r : Fin 2000, x (ix2 r 9) = D.ty (o + r)
  tt : ∀ r : Fin 2000, x (ix2 r 10) = D.tt (o + r)
  id : ∀ r : Fin 2000, x (ix2 r 11) = FloatOps.sitofp (F := Ideal) .f32 (D.id (o + r))

theorem sitofp_inj (a b : BitVec 32) :
    (FloatOps.sitofp (F := Ideal) .f32 a = FloatOps.sitofp (F := Ideal) .f32 b) ↔ a = b := by
  show (((a.toInt : ℝ) : EReal) = ((b.toInt : ℝ) : EReal)) ↔ a = b
  rw [EReal.coe_eq_coe_iff, Int.cast_inj, BitVec.toInt_inj]

theorem sitofp_zero_iff (a : BitVec 32) : (FloatOps.sitofp (F := Ideal) .f32 a = (0 : EReal)) ↔ a = 0#32 := by
  rw [← sitofp_inj a 0#32]
  have : FloatOps.sitofp (F := Ideal) .f32 0#32 = (0 : EReal) := by
    show (((0#32 : BitVec 32).toInt : ℝ) : EReal) = 0
    simp
  rw [this]

theorem sitofp_nat (n : ℕ) (h : n < 2 ^ 31) :
    FloatOps.sitofp (F := Ideal) .f32 (BitVec.ofNat 32 n) = ((n : ℝ) : EReal) := by
  show (((BitVec.ofNat 32 n).toInt : ℝ) : EReal) = _
  have : (BitVec.ofNat 32 n).toInt = n := by
    have h2 : n % 2 ^ 32 = n := Nat.mod_eq_of_lt (by omega)
    rw [BitVec.toInt_eq_toNat_of_lt (by rw [BitVec.toNat_ofNat, h2]; omega), BitVec.toNat_ofNat, h2]
  rw [this]; simp

theorem sitofp_pos_iff (k : Fin 256) :
    ((0 : EReal) < FloatOps.sitofp (F := Ideal) .f32 (BitVec.ofNat 32 k)) ↔ k ≠ 0 := by
  rw [sitofp_nat _ (by omega)]
  rw [← EReal.coe_zero, EReal.coe_lt_coe_iff, Nat.cast_pos, Nat.pos_iff_ne_zero]
  exact Fin.val_ne_zero_iff

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem not_bit (p : Prop) [Decidable p] :
    IntOp.xori (BitVec.ofBool (decide p)) 1#1 = BitVec.ofBool (decide (¬ p)) := by
  by_cases hp : p <;> simp [hp, IntOp.xori]

theorem select_bit {α : Type} (p : Prop) [Decidable p] (a b : α) :
    Scalar.select (BitVec.ofBool (decide p)) a b = if p then a else b := by
  by_cases hp : p <;> simp [hp, Scalar.select]

/-- Row `i`'s number where it has the score `f k` of object `k`, else one hundred thousand. -/
def cnd (D : Data) (f : Fin 256 → EReal) (k : Fin 256) (i : ℕ) : EReal :=
  if (D.oh k i ∧ D.bm i = f k) ∧ ¬ D.noise i then ((i : ℝ) : EReal) else big

/-- The least of these over a block. -/
def tmin (D : Data) (f : Fin 256 → EReal) (o : ℕ) (k : Fin 256) : EReal :=
  Finset.univ.fold min ⊤ fun r : Fin 2000 => cnd D f k (o + r)

theorem cand_iff (D : Data) (f : Fin 256 → EReal) (k : Fin 256) (i : ℕ) (y : EReal) :
    (D.id i = BitVec.ofNat 32 k ∧ y = ∑ j : Fin 256, if D.id i = BitVec.ofNat 32 j then f j else 0)
      ↔ (D.id i = BitVec.ofNat 32 k ∧ y = f k) := by
  refine and_congr_right fun h => ?_
  rw [Finset.sum_eq_single k (fun j _ hj => if_neg fun hj' => hj ?_) (fun hk => absurd (Finset.mem_univ _) hk), if_pos h]
  have := h.symm.trans hj'
  have := congrArg BitVec.toNat this
  simp only [BitVec.toNat_ofNat] at this
  exact Fin.ext (by omega)

theorem row_word (t : ℕ) (ht : t < 50) (r : Fin 2000) :
    FloatOps.sitofp (F := Ideal) .f32 (BitVec.ofNat 32 r) + (((BitVec.ofNat 32 t).toInt : ℝ) : EReal) * Ideal.ofBits .f32 0x44FA0000#32
      = (((2000 * t + r : ℕ) : ℝ) : EReal) := by
  have h : (((BitVec.ofNat 32 t).toInt : ℝ) : EReal) = ((t : ℝ) : EReal) := sitofp_nat t (by omega)
  rw [h, sitofp_nat _ (by omega), tile_eq, ← EReal.coe_mul, ← EReal.coe_add, EReal.coe_eq_coe_iff]
  push_cast
  ring

variable {D : Data} {o : ℕ} {x : FVec Ideal S2000x16 .f32} (hx : Blk D o x) (s : St Ideal)
include hx

theorem step0_segc (k : Fin 256) :
    (step0 x s).segc (ix2 0 k) = s.segc (ix2 0 k) + ∑ r : Fin 2000, D.gseg k (o + r) := by
  pointwise [step0, k0_pay10, k0_pay53, k0_pay55, k0_pay51, k0_pay54, k0_pay40, hx.id]
  simp only [and_bit, not_bit, select_bit, sitofp_inj, sitofp_zero_iff]
  rfl

theorem step0_betak (k : Fin 256) :
    (step0 x s).betak (ix2 0 k) = max (s.betak (ix2 0 k)) (Finset.univ.fold max ⊥ fun r : Fin 2000 => D.gbk k (o + r)) := by
  pointwise [step0, k0_pay11, k0_pay53, k0_pay55, k0_pay51, k0_pay54, k0_pay40, k0_pay56, k0_pay52, hx.id, hx.b]
  simp only [and_bit, not_bit, select_bit, sitofp_inj, sitofp_zero_iff, bot_bits]
  rfl

theorem step0_pnum (k : Fin 256) :
    (step0 x s).pnum (ix2 0 k) = s.pnum (ix2 0 k) + ∑ r : Fin 2000, D.gpn k (o + r) := by
  pointwise [step0, k0_pay15, k0_pay53, k0_pay55, k0_pay51, k0_pay54, k0_pay40, k0_pay56, k0_pay52, k0_pay14, k0_pay12,
    k0_pay13, k0_pay43, k0_pay44, k0_pay45, k0_pay46, k0_pay47, k0_pay48, k0_pay49, k0_pay50, hx.id, hx.b, hx.pe, hx.px,
    hx.py, hx.pt, hx.te, hx.tx, hx.ty, hx.tt]
  simp only [and_bit, not_bit, select_bit, sitofp_inj, sitofp_zero_iff]
  rfl

theorem step0_pden (k : Fin 256) :
    (step0 x s).pden (ix2 0 k) = s.pden (ix2 0 k) + ∑ r : Fin 2000, D.gpd k (o + r) := by
  pointwise [step0, k0_pay57, k0_pay16, k0_pay53, k0_pay55, k0_pay51, k0_pay54, k0_pay40, k0_pay56, k0_pay52, k0_pay14,
    hx.id, hx.b]
  simp only [and_bit, not_bit, select_bit, sitofp_inj, sitofp_zero_iff]
  rfl

theorem step0_w0 : (step0 x s).w0 = s.w0 + ∑ r : Fin 2000, D.gw0 (o + r) := by
  pointwise [step0, k0_pay58, k0_pay53, k0_pay51, k0_pay40, k0_pay52, hx.id, hx.b]
  simp only [and_bit, not_bit, select_bit, sitofp_inj, sitofp_zero_iff, Finset.univ_unique, Finset.sum_singleton]
  rfl

theorem step0_w1 : (step0 x s).w1 = s.w1 + ∑ r : Fin 2000, D.gw1 (o + r) := by
  pointwise [step0, k0_pay59, k0_pay53, k0_pay51, k0_pay40, k0_pay52, hx.id, hx.b]
  simp only [and_bit, not_bit, select_bit, sitofp_inj, sitofp_zero_iff, Finset.univ_unique, Finset.sum_singleton]
  rfl

omit hx in
theorem step1_core (t : ℕ) (ht : t < 50) (hx : Blk D (2000 * t) x) (r : Fin 2000) (k : Fin 256) :
    k0_pay17 (F := Ideal) (BitVec.ofNat 32 t) (k0_pay53 (F := Ideal) x) (k0_pay55 (F := Ideal) x) (k0_pay56 (F := Ideal) x) s.betak
        (ix2 r k)
      = cnd D (fun j => s.betak (ix2 0 j)) k (2000 * t + r) := by
  pointwise [k0_pay17, k0_pay53, k0_pay55, k0_pay51, k0_pay54, k0_pay40, k0_pay56, k0_pay52, hx.id, hx.b]
  simp only [and_bit, not_bit, select_bit, sitofp_inj, sitofp_zero_iff, row_word t ht]
  rw [cnd]
  refine if_congr ?_ rfl rfl
  exact and_congr_left fun _ => cand_iff D (fun j => s.betak (ix2 0 j)) k _ _

omit hx in
theorem step1_amin (t : ℕ) (ht : t < 50) (hx : Blk D (2000 * t) x) (k : Fin 256) :
    (step1 (BitVec.ofNat 32 t) x s).amin (ix2 0 k)
      = min (s.amin (ix2 0 k)) (tmin D (fun j => s.betak (ix2 0 j)) (2000 * t) k) := by
  pointwise [step1, k0_pay60, k0_pay18, step1_core s t ht hx]
  simp only [top_bits]
  rfl

omit hx in
theorem step1_ax0 (t : ℕ) (ht : t < 50) (hx : Blk D (2000 * t) x) (k : Fin 256) :
    (step1 (BitVec.ofNat 32 t) x s).ax0 (ix2 0 k)
      = if tmin D (fun j => s.betak (ix2 0 j)) (2000 * t) k < s.amin (ix2 0 k) then
          ∑ r : Fin 2000, if cnd D (fun j => s.betak (ix2 0 j)) k (2000 * t + r) = tmin D (fun j => s.betak (ix2 0 j)) (2000 * t) k
            then D.x0 (2000 * t + r) else 0
        else s.ax0 (ix2 0 k) := by
  pointwise [step1, k0_pay61, k0_pay19, k0_pay18, k0_pay20, k0_pay21, k0_pay41, k0_pay40, hx.x0, step1_core s t ht hx]
  simp only [top_bits]
  rfl

omit hx in
theorem step1_ax1 (t : ℕ) (ht : t < 50) (hx : Blk D (2000 * t) x) (k : Fin 256) :
    (step1 (BitVec.ofNat 32 t) x s).ax1 (ix2 0 k)
      = if tmin D (fun j => s.betak (ix2 0 j)) (2000 * t) k < s.amin (ix2 0 k) then
          ∑ r : Fin 2000, if cnd D (fun j => s.betak (ix2 0 j)) k (2000 * t + r) = tmin D (fun j => s.betak (ix2 0 j)) (2000 * t) k
            then D.x1 (2000 * t + r) else 0
        else s.ax1 (ix2 0 k) := by
  pointwise [step1, k0_pay62, k0_pay19, k0_pay18, k0_pay20, k0_pay22, k0_pay42, k0_pay40, hx.x1, step1_core s t ht hx]
  simp only [top_bits]
  rfl

omit hx in
theorem step1_abeta (t : ℕ) (ht : t < 50) (hx : Blk D (2000 * t) x) (k : Fin 256) :
    (step1 (BitVec.ofNat 32 t) x s).abeta (ix2 0 k)
      = if tmin D (fun j => s.betak (ix2 0 j)) (2000 * t) k < s.amin (ix2 0 k) then
          ∑ r : Fin 2000, if cnd D (fun j => s.betak (ix2 0 j)) k (2000 * t + r) = tmin D (fun j => s.betak (ix2 0 j)) (2000 * t) k
            then D.bt (2000 * t + r) else 0
        else s.abeta (ix2 0 k) := by
  pointwise [step1, k0_pay63, k0_pay19, k0_pay18, k0_pay20, k0_pay23, k0_pay52, k0_pay40, hx.b, step1_core s t ht hx]
  simp only [top_bits]
  rfl

/-- The charge that goes with a score. -/
def chg (y : EReal) : EReal :=
  half * Ideal.log (Ideal.div (1 + min hi (max lo y)) (1 - min hi (max lo y)))
    * (half * Ideal.log (Ideal.div (1 + min hi (max lo y)) (1 - min hi (max lo y)))) + half

/-- The squared distance of row `i` from the stored point of object `k`. -/
def dst (D : Data) (s : St Ideal) (i : ℕ) (k : Fin 256) : EReal :=
  (D.x0 i - s.ax0 (ix2 0 k)) * (D.x0 i - s.ax0 (ix2 0 k)) + (D.x1 i - s.ax1 (ix2 0 k)) * (D.x1 i - s.ax1 (ix2 0 k))

theorem step2_w2 :
    (step2 x s).w2 = s.w2 + ∑ r : Fin 2000, ∑ k : Fin 256,
      if 0 < s.segc (ix2 0 k) ∧ k ≠ 0 then
        if D.oh k (o + r) ∧ ¬ D.noise (o + r) then
          dst D s (o + r) k * chg (s.abeta (ix2 0 k)) * chg (D.b (o + r)) else 0
      else 0 := by
  pointwise [step2, k0_pay36, k0_pay35, k0_pay34, k0_pay33, k0_pay32, k0_pay31, k0_pay30, k0_pay29, k0_pay41, k0_pay42,
    k0_pay53, k0_pay55, k0_pay51, k0_pay54, k0_pay40, k0_pay52, hx.id, hx.b, hx.x0, hx.x1]
  simp only [and_bit, not_bit, select_bit, sitofp_inj, sitofp_zero_iff, sitofp_pos_iff]
  rfl

theorem step2_w3 :
    (step2 x s).w3 = s.w3 + ∑ r : Fin 2000, ∑ k : Fin 256,
      if 0 < s.segc (ix2 0 k) ∧ k ≠ 0 then
        if D.oh k (o + r) ∧ ¬ D.noise (o + r) then 0 else
          max (1 - Ideal.sqrt (dst D s (o + r) k + lo)) 0 * chg (s.abeta (ix2 0 k)) * chg (D.b (o + r))
      else 0 := by
  pointwise [step2, k0_pay37, k0_pay35, k0_pay34, k0_pay33, k0_pay32, k0_pay31, k0_pay30, k0_pay29, k0_pay41, k0_pay42,
    k0_pay53, k0_pay55, k0_pay51, k0_pay54, k0_pay40, k0_pay52, hx.id, hx.b, hx.x0, hx.x1]
  simp only [and_bit, not_bit, select_bit, sitofp_inj, sitofp_zero_iff, sitofp_pos_iff]
  rfl

omit hx in
/-- The loss from the last rows and words. -/
theorem fin_at (i j : Fin 1) : fin s (ix2 i j)
    = ((Ideal.div s.w2 ((∑ k : Fin 256, if 0 < s.segc (ix2 0 k) ∧ k ≠ 0 then s.segc (ix2 0 k) else 0) + tiny)
        + Ideal.div s.w3 ((big * ∑ k : Fin 256, if 0 < s.segc (ix2 0 k) ∧ k ≠ 0 then 1 else 0) + tiny))
      + (Ideal.div (∑ k : Fin 256, if (0 : EReal) < (if 0 < s.segc (ix2 0 k) ∧ k ≠ 0 then 1 else 0) then
            1 - min 1 (max 0 (s.betak (ix2 0 k))) else 0)
          ((∑ k : Fin 256, if 0 < s.segc (ix2 0 k) ∧ k ≠ 0 then 1 else 0) + tiny)
        + Ideal.div s.w0 (s.w1 + tiny)))
      + Ideal.div (∑ k : Fin 256, if 0 < s.segc (ix2 0 k) ∧ k ≠ 0 then
            if s.pden (ix2 0 k) = 0 then 0
            else Ideal.div (s.pnum (ix2 0 k)) (if s.pden (ix2 0 k) = 0 then 1 else s.pden (ix2 0 k))
          else 0)
        ((∑ k : Fin 256, if 0 < s.segc (ix2 0 k) ∧ k ≠ 0 then 1 else 0) + tiny) := by
  pointwise [fin, k0_pay1, k0_pay24, k0_pay25, k0_pay26, k0_pay27, k0_pay28, k0_pay54]
  simp only [and_bit, not_bit, select_bit, sitofp_inj, sitofp_zero_iff, sitofp_pos_iff, Finset.univ_unique,
    Finset.sum_singleton]

end Cert.KernelIdeal.Body

end
-- ==== Proof.KernelIdealLoss.lean ====
module

public import proofs.«01_k».proof.Proof.KernelIdealTile
public import proofs.«01_k».proof.Proof.KernelIdealRun

@[expose] public section

set_option maxRecDepth 16384

/-!
# The three passes together

The sums of the first pass run over all rows after its fifty blocks. In the second pass the least matching row is kept
together with its columns. The third pass adds up the two potentials. The value that the last point writes is the loss.
-/

noncomputable section

namespace Cert.Spec

open Idealize.ShloMosaic

/-- A sum over the rows of one more block. -/
theorem sum_block (f : ℕ → EReal) (t : ℕ) :
    ∑ i ∈ Finset.range (2000 * (t + 1)), f i
      = (∑ i ∈ Finset.range (2000 * t), f i) + ∑ r : Fin 2000, f (2000 * t + r) := by
  rw [Nat.mul_succ, Finset.sum_range_add, Finset.sum_range (fun x => f (2000 * t + x))]

/-- A maximum over the rows of one more block. -/
theorem max_block (f : ℕ → EReal) (t : ℕ) :
    (Finset.range (2000 * (t + 1))).fold max ⊥ f
      = max ((Finset.range (2000 * t)).fold max ⊥ f) (Finset.univ.fold max ⊥ fun r : Fin 2000 => f (2000 * t + r)) := by
  show (Finset.range (2000 * (t + 1))).sup f
    = (Finset.range (2000 * t)).sup f ⊔ Finset.univ.sup fun r : Fin 2000 => f (2000 * t + r)
  refine le_antisymm (Finset.sup_le fun i hi => ?_) (sup_le (Finset.sup_le fun i hi => ?_) (Finset.sup_le fun r _ => ?_))
  · rw [Finset.mem_range] at hi
    by_cases h : i < 2000 * t
    · exact le_sup_of_le_left (Finset.le_sup (f := f) (Finset.mem_range.mpr h))
    · refine le_sup_of_le_right ?_
      have hr : i = 2000 * t + (⟨i - 2000 * t, by omega⟩ : Fin 2000).val := by show i = 2000 * t + (i - 2000 * t); omega
      rw [hr]
      exact Finset.le_sup (f := fun r : Fin 2000 => f (2000 * t + r)) (Finset.mem_univ _)
  · rw [Finset.mem_range] at hi
    exact Finset.le_sup (f := f) (Finset.mem_range.mpr (by omega))
  · exact Finset.le_sup (f := f) (Finset.mem_range.mpr (by omega))

theorem nat_lt_nat (i j : ℕ) : (((i : ℝ) : EReal) < ((j : ℝ) : EReal)) ↔ i < j := by
  rw [EReal.coe_lt_coe_iff, Nat.cast_lt]

theorem nat_le_nat (i j : ℕ) : (((i : ℝ) : EReal) ≤ ((j : ℝ) : EReal)) ↔ i ≤ j := by
  rw [EReal.coe_le_coe_iff, Nat.cast_le]

theorem nat_eq_nat (i j : ℕ) : (((i : ℝ) : EReal) = ((j : ℝ) : EReal)) ↔ i = j := by
  rw [EReal.coe_eq_coe_iff, Nat.cast_inj]

theorem big_nat : big = (((100000 : ℕ) : ℝ) : EReal) := by rw [big_eq]; norm_num

namespace Data

variable (D : Data)

/-- A counted object has a row that attains its maximum. -/
theorem exists_isal (k : Fin 256) (hv : D.valid k) : ∃ i, i < 100000 ∧ D.isal k i := by
  obtain ⟨hs, hk⟩ := hv
  have h1 : ∃ i, i < 100000 ∧ D.oh k i ∧ ¬ D.noise i := by
    by_contra hn
    have : D.seg k = 0 := Finset.sum_eq_zero fun i hi => if_neg fun h => hn ⟨i, Finset.mem_range.mp hi, h⟩
    rw [this] at hs
    exact lt_irrefl _ hs
  obtain ⟨i, hi, ho, hn⟩ := h1
  obtain ⟨j, hj, hmax⟩ := Finset.exists_mem_eq_sup (Finset.range 100000) ⟨i, Finset.mem_range.mpr hi⟩ (D.gbk k)
  have hb : D.bk k = D.gbk k j := hmax
  have hle : D.gbk k i ≤ D.bk k := Finset.le_sup (f := D.gbk k) (Finset.mem_range.mpr hi)
  have hoj : D.oh k j := by
    by_contra hc
    have h0 : D.gbk k j = ⊥ := if_neg hc
    have h2 : D.gbk k i = D.bt i := by rw [gbk, if_pos ho, bm, if_neg hn]
    rw [hb, h0, h2, le_bot_iff] at hle
    obtain ⟨r, hr, _⟩ := clip_real (D.b i)
    exact EReal.coe_ne_bot r (hr.symm.trans hle)
  refine ⟨j, Finset.mem_range.mp hj, hoj, ?_, fun h0 => hk ?_⟩
  · rw [hb, gbk, if_pos hoj]
  · have h := hoj.symm.trans h0
    have := congrArg BitVec.toNat h
    simp only [BitVec.toNat_ofNat] at this
    exact Fin.ext (by rw [Fin.val_zero]; omega)

/-- The first such row is `al`. -/
theorem al_eq (k : Fin 256) (i : ℕ) (hi : i < 100000) (h : D.isal k i) (hmin : ∀ j < i, ¬ D.isal k j) : D.al k = i := by
  refine le_antisymm (Nat.sInf_le ⟨hi, h⟩) ?_
  by_contra hlt
  exact hmin _ (not_le.mp hlt) (Nat.sInf_mem (s := {i | i < 100000 ∧ D.isal k i}) ⟨i, hi, h⟩).2

end Data

end Cert.Spec

namespace Cert.KernelIdeal.Body

open Idealize.ShloMosaic Idealize.SL.Sem Cert.KernelIdeal Cert.KernelIdeal.Gen Cert.Spec

/-- Row `i` has the score `f k` of object `k`. -/
def hit (D : Data) (f : Fin 256 → EReal) (k : Fin 256) (i : ℕ) : Prop := (D.oh k i ∧ D.bm i = f k) ∧ ¬ D.noise i

theorem cnd_hit {D : Data} {f : Fin 256 → EReal} {k : Fin 256} {i : ℕ} (h : hit D f k i) :
    cnd D f k i = ((i : ℝ) : EReal) := if_pos h
theorem cnd_miss {D : Data} {f : Fin 256 → EReal} {k : Fin 256} {i : ℕ} (h : ¬ hit D f k i) : cnd D f k i = big := if_neg h

/-- A block either has no matching row, or its least matching row is found and picked out. -/
theorem tile_case (D : Data) (f : Fin 256 → EReal) (k : Fin 256) (t : ℕ) (ht : t < 50) :
    ((∀ j, 2000 * t ≤ j → j < 2000 * (t + 1) → ¬ hit D f k j) ∧ tmin D f (2000 * t) k = big)
    ∨ ∃ i, 2000 * t ≤ i ∧ i < 2000 * (t + 1) ∧ hit D f k i ∧ (∀ j, 2000 * t ≤ j → j < i → ¬ hit D f k j)
        ∧ tmin D f (2000 * t) k = ((i : ℝ) : EReal)
        ∧ ∀ g : ℕ → EReal, (∑ r : Fin 2000, if cnd D f k (2000 * t + r) = tmin D f (2000 * t) k then g (2000 * t + r) else 0)
            = g i := by
  classical
  have hinf : tmin D f (2000 * t) k = Finset.univ.inf fun r : Fin 2000 => cnd D f k (2000 * t + r) := rfl
  by_cases hex : ∃ i, 2000 * t ≤ i ∧ i < 2000 * (t + 1) ∧ hit D f k i
  · right
    obtain ⟨h1, h2, h3⟩ := Nat.find_spec hex
    have hmin : ∀ j, 2000 * t ≤ j → j < Nat.find hex → ¬ hit D f k j := fun j hj hlt hh =>
      Nat.find_min hex hlt ⟨hj, by omega, hh⟩
    generalize Nat.find hex = i at h1 h2 h3 hmin
    have hm : tmin D f (2000 * t) k = ((i : ℝ) : EReal) := by
      rw [hinf]
      refine le_antisymm ?_ (Finset.le_inf fun r _ => ?_)
      · have hr : i = 2000 * t + (⟨i - 2000 * t, by omega⟩ : Fin 2000).val := by
          show i = 2000 * t + (i - 2000 * t); omega
        refine (Finset.inf_le (f := fun r : Fin 2000 => cnd D f k (2000 * t + r))
          (Finset.mem_univ (⟨i - 2000 * t, by omega⟩ : Fin 2000))).trans (le_of_eq ?_)
        show cnd D f k (2000 * t + (⟨i - 2000 * t, by omega⟩ : Fin 2000).val) = _
        rw [← hr, cnd_hit h3]
      · by_cases hh : hit D f k (2000 * t + r)
        · rw [cnd_hit hh, nat_le_nat]
          by_contra hc
          exact hmin _ (by omega) (by omega) hh
        · rw [cnd_miss hh, big_nat, nat_le_nat]; omega
    refine ⟨i, h1, h2, h3, hmin, hm, fun g => ?_⟩
    rw [hm]
    have hr : i = 2000 * t + (⟨i - 2000 * t, by omega⟩ : Fin 2000).val := by
      show i = 2000 * t + (i - 2000 * t); omega
    rw [Finset.sum_eq_single (⟨i - 2000 * t, by omega⟩ : Fin 2000)]
    · rw [← hr, cnd_hit h3, if_pos rfl]
    · intro r _ hne
      refine if_neg fun hc => hne ?_
      by_cases hh : hit D f k (2000 * t + r)
      · rw [cnd_hit hh, nat_eq_nat] at hc
        exact Fin.ext (by show r.val = i - 2000 * t; omega)
      · rw [cnd_miss hh, big_nat, nat_eq_nat] at hc
        omega
    · exact fun h => absurd (Finset.mem_univ _) h
  · left
    have hno : ∀ j, 2000 * t ≤ j → j < 2000 * (t + 1) → ¬ hit D f k j := fun j h1 h2 h3 => hex ⟨j, h1, h2, h3⟩
    refine ⟨hno, ?_⟩
    rw [hinf]
    refine le_antisymm ?_ (Finset.le_inf fun r _ => ?_)
    · refine (Finset.inf_le (f := fun r : Fin 2000 => cnd D f k (2000 * t + r)) (Finset.mem_univ (0 : Fin 2000))).trans
        (le_of_eq (cnd_miss (hno _ (by omega) (by simp))))
    · exact le_of_eq (cnd_miss (hno _ (by omega) (by omega))).symm

/-- What the second pass knows after `M` rows. -/
def Inv (D : Data) (f : Fin 256 → EReal) (M : ℕ) (k : Fin 256) (s : St Ideal) : Prop :=
  (∃ i < M, hit D f k i ∧ (∀ j < i, ¬ hit D f k j) ∧ s.amin (ix2 0 k) = ((i : ℝ) : EReal) ∧ s.ax0 (ix2 0 k) = D.x0 i
    ∧ s.ax1 (ix2 0 k) = D.x1 i ∧ s.abeta (ix2 0 k) = D.bt i)
  ∨ ((∀ j < M, ¬ hit D f k j) ∧ s.amin (ix2 0 k) = big)

theorem inv_step (D : Data) (f : Fin 256 → EReal) (k : Fin 256) (t : ℕ) (ht : t < 50) (x : FVec Ideal S2000x16 .f32)
    (hx : Blk D (2000 * t) x) (s : St Ideal) (hf : (fun j => s.betak (ix2 0 j)) = f) (hi : Inv D f (2000 * t) k s) :
    Inv D f (2000 * (t + 1)) k (step1 (BitVec.ofNat 32 t) x s) := by
  have e0 := step1_amin s t ht hx k
  have e1 := step1_ax0 s t ht hx k
  have e2 := step1_ax1 s t ht hx k
  have e3 := step1_abeta s t ht hx k
  rw [hf] at e0 e1 e2 e3
  unfold Inv
  rw [e0, e1, e2, e3]
  rcases tile_case D f k t ht with ⟨hno, hm⟩ | ⟨i, h1, h2, h3, h4, hm, hsum⟩
  · rw [hm]
    rcases hi with ⟨i, hlt, hh, hmin, ha, hb⟩ | ⟨hn, ha⟩
    · left
      have hnl : ¬ big < s.amin (ix2 0 k) := by rw [ha, big_nat, nat_lt_nat]; omega
      rw [if_neg hnl, if_neg hnl, if_neg hnl, min_eq_left (not_lt.mp hnl)]
      exact ⟨i, by omega, hh, hmin, ha, hb⟩
    · right
      rw [ha, min_self]
      refine ⟨fun j hj => ?_, rfl⟩
      by_cases hj' : j < 2000 * t
      · exact hn j hj'
      · exact hno j (not_lt.mp hj') hj
  · rw [hsum, hsum, hsum, hm]
    left
    rcases hi with ⟨i', hlt, hh, hmin, ha, hb⟩ | ⟨hn, ha⟩
    · have hnl : ¬ ((i : ℝ) : EReal) < s.amin (ix2 0 k) := by rw [ha, nat_lt_nat]; omega
      rw [if_neg hnl, if_neg hnl, if_neg hnl, min_eq_left (not_lt.mp hnl)]
      exact ⟨i', by omega, hh, hmin, ha, hb⟩
    · have hl : ((i : ℝ) : EReal) < s.amin (ix2 0 k) := by rw [ha, big_nat, nat_lt_nat]; omega
      rw [if_pos hl, if_pos hl, if_pos hl, min_eq_right hl.le]
      refine ⟨i, h2, h3, fun j hj => ?_, rfl, rfl, rfl, rfl⟩
      by_cases hj' : j < 2000 * t
      · exact hn j hj'
      · exact h4 j (not_lt.mp hj') hj

/-! ## The first pass -/

section Passes

variable {D : Data} {X : ℕ → FVec Ideal S2000x16 .f32} (hX : ∀ n < 150, Blk D (2000 * (n % 50)) (X n))
include hX

/-- The state after `n` blocks of the first pass. -/
structure P0 (D : Data) (n : ℕ) (s : St Ideal) : Prop where
  segc : ∀ k, s.segc (ix2 0 k) = ∑ i ∈ Finset.range (2000 * n), D.gseg k i
  betak : ∀ k, s.betak (ix2 0 k) = (Finset.range (2000 * n)).fold max ⊥ (D.gbk k)
  pnum : ∀ k, s.pnum (ix2 0 k) = ∑ i ∈ Finset.range (2000 * n), D.gpn k i
  pden : ∀ k, s.pden (ix2 0 k) = ∑ i ∈ Finset.range (2000 * n), D.gpd k i
  w0 : s.w0 = ∑ i ∈ Finset.range (2000 * n), D.gw0 i
  w1 : s.w1 = ∑ i ∈ Finset.range (2000 * n), D.gw1 i
  w2 : s.w2 = 0
  w3 : s.w3 = 0
  amin : ∀ k, s.amin (ix2 0 k) = big

omit hX in
theorem init_P0 : P0 D 0 (init : St Ideal) where
  segc k := by pointwise [init, k0_pay2]; rfl
  betak k := by
    pointwise [init, k0_pay3]
    rw [bot_bits]; rfl
  pnum k := by pointwise [init, k0_pay4]; rfl
  pden k := by pointwise [init, k0_pay5]; rfl
  w0 := by pointwise [init]; rfl
  w1 := by pointwise [init]; rfl
  w2 := by pointwise [init]
  w3 := by pointwise [init]
  amin k := by pointwise [init, k0_pay6]

theorem pass0 (n : ℕ) (hn : n ≤ 50) : P0 D n (runSt (F := Ideal) X n) := by
  induction n with
  | zero => exact init_P0
  | succ n ih =>
    have h := ih (by omega)
    have hb := hX n (by omega)
    rw [Nat.mod_eq_of_lt (show n < 50 by omega)] at hb
    have hs : runSt (F := Ideal) X (n + 1) = step0 (X n) (runSt (F := Ideal) X n) := by
      show stepAt n (X n) (runSt (F := Ideal) X n) = _
      rw [stepAt, if_pos (by omega)]
    rw [hs]
    exact {
      segc := fun k => by rw [step0_segc hb, h.segc, sum_block]
      betak := fun k => by rw [step0_betak hb, h.betak, max_block]
      pnum := fun k => by rw [step0_pnum hb, h.pnum, sum_block]
      pden := fun k => by rw [step0_pden hb, h.pden, sum_block]
      w0 := by rw [step0_w0 hb, h.w0, sum_block]
      w1 := by rw [step0_w1 hb, h.w1, sum_block]
      w2 := h.w2
      w3 := h.w3
      amin := h.amin }

/-- The state in the second pass, after `M` rows of it. -/
structure P1 (D : Data) (M : ℕ) (s : St Ideal) : Prop where
  segc : ∀ k, s.segc (ix2 0 k) = D.seg k
  betak : ∀ k, s.betak (ix2 0 k) = D.bk k
  pnum : ∀ k, s.pnum (ix2 0 k) = D.pn k
  pden : ∀ k, s.pden (ix2 0 k) = D.pd k
  w0 : s.w0 = D.w0
  w1 : s.w1 = D.w1
  w2 : s.w2 = 0
  w3 : s.w3 = 0
  inv : ∀ k, Inv D D.bk M k s

theorem pass1 (n : ℕ) (hn : n ≤ 50) : P1 D (2000 * n) (runSt (F := Ideal) X (50 + n)) := by
  induction n with
  | zero =>
    have h := pass0 hX 50 le_rfl
    exact {
      segc := h.segc, betak := h.betak, pnum := h.pnum, pden := h.pden, w0 := h.w0, w1 := h.w1, w2 := h.w2, w3 := h.w3
      inv := fun k => .inr ⟨fun j hj => absurd hj (by omega), h.amin k⟩ }
  | succ n ih =>
    have h := ih (by omega)
    have hb := hX (50 + n) (by omega)
    rw [show (50 + n) % 50 = n by omega] at hb
    have hs : runSt (F := Ideal) X (50 + (n + 1)) = step1 (BitVec.ofNat 32 n) (X (50 + n)) (runSt (F := Ideal) X (50 + n)) := by
      show stepAt (50 + n) (X (50 + n)) (runSt (F := Ideal) X (50 + n)) = _
      rw [stepAt, if_neg (by omega), if_pos (by omega), show (50 + n) % 50 = n by omega]
    rw [hs]
    exact {
      segc := h.segc, betak := h.betak, pnum := h.pnum, pden := h.pden, w0 := h.w0, w1 := h.w1, w2 := h.w2, w3 := h.w3
      inv := fun k => inv_step D D.bk k n (by omega) _ hb _ (funext h.betak) (h.inv k) }

omit hX in
/-- The charge of a row. -/
theorem chg_row (i : ℕ) : chg (D.b i) = D.q i := by
  unfold chg
  rw [half_log]; rfl

omit hX in
theorem chg_bt (i : ℕ) : chg (D.bt i) = D.q i := by
  rw [← chg_row]
  unfold chg Data.bt
  rw [clip_clip]

/-- The state in the third pass, after `M` rows of it. -/
structure P2 (D : Data) (M : ℕ) (s : St Ideal) : Prop where
  segc : ∀ k, s.segc (ix2 0 k) = D.seg k
  betak : ∀ k, s.betak (ix2 0 k) = D.bk k
  pnum : ∀ k, s.pnum (ix2 0 k) = D.pn k
  pden : ∀ k, s.pden (ix2 0 k) = D.pd k
  w0 : s.w0 = D.w0
  w1 : s.w1 = D.w1
  ax0 : ∀ k, D.valid k → s.ax0 (ix2 0 k) = D.x0 (D.al k)
  ax1 : ∀ k, D.valid k → s.ax1 (ix2 0 k) = D.x1 (D.al k)
  abeta : ∀ k, D.valid k → s.abeta (ix2 0 k) = D.bt (D.al k)
  w2 : s.w2 = ∑ i ∈ Finset.range M, ∑ k, D.gatt i k
  w3 : s.w3 = ∑ i ∈ Finset.range M, ∑ k, D.grep i k

omit hX in
/-- After the second pass the columns of the first best row are known for each counted object. -/
theorem inv_end {s : St Ideal} (k : Fin 256) (hv : D.valid k) (hi : Inv D D.bk 100000 k s) :
    s.ax0 (ix2 0 k) = D.x0 (D.al k) ∧ s.ax1 (ix2 0 k) = D.x1 (D.al k) ∧ s.abeta (ix2 0 k) = D.bt (D.al k) := by
  have hiff : ∀ i, hit D D.bk k i ↔ D.isal k i := fun i => and_assoc
  rcases hi with ⟨i, hlt, hh, hmin, _, h0, h1, hb⟩ | ⟨hn, _⟩
  · rw [D.al_eq k i hlt ((hiff i).mp hh) fun j hj hc => hmin j hj ((hiff j).mpr hc)]
    exact ⟨h0, h1, hb⟩
  · obtain ⟨i, hlt, hh⟩ := D.exists_isal k hv
    exact absurd ((hiff i).mpr hh) (hn i hlt)

omit hX in
theorem P2_dst {M : ℕ} {s : St Ideal} (h : P2 D M s) (k : Fin 256) (hv : D.valid k) (i : ℕ) : dst D s i k = D.d2 i k := by
  unfold dst Data.d2
  rw [h.ax0 k hv, h.ax1 k hv]

omit hX in
theorem att_term {M : ℕ} {s : St Ideal} (h : P2 D M s) (i : ℕ) (k : Fin 256) :
    (if 0 < s.segc (ix2 0 k) ∧ k ≠ 0 then
      if D.oh k i ∧ ¬ D.noise i then dst D s i k * chg (s.abeta (ix2 0 k)) * chg (D.b i) else 0 else 0) = D.gatt i k := by
  rw [h.segc]
  unfold Data.gatt
  by_cases hv : D.valid k
  · rw [if_pos (show 0 < D.seg k ∧ k ≠ 0 from hv)]
    by_cases ho : D.oh k i ∧ ¬ D.noise i
    · rw [if_pos ho, if_pos ⟨ho, hv⟩, P2_dst h k hv, h.abeta k hv, chg_row, chg_bt, mul_assoc, mul_comm (D.q (D.al k))]
    · rw [if_neg ho, if_neg fun hc => ho hc.1]
  · rw [if_neg (show ¬ (0 < D.seg k ∧ k ≠ 0) from hv), if_neg fun hc => hv hc.2]

omit hX in
theorem rep_term {M : ℕ} {s : St Ideal} (h : P2 D M s) (i : ℕ) (k : Fin 256) :
    (if 0 < s.segc (ix2 0 k) ∧ k ≠ 0 then
      if D.oh k i ∧ ¬ D.noise i then 0 else
        max (1 - Ideal.sqrt (dst D s i k + lo)) 0 * chg (s.abeta (ix2 0 k)) * chg (D.b i) else 0) = D.grep i k := by
  rw [h.segc]
  unfold Data.grep
  by_cases hv : D.valid k
  · rw [if_pos (show 0 < D.seg k ∧ k ≠ 0 from hv)]
    by_cases ho : D.oh k i ∧ ¬ D.noise i
    · rw [if_pos ho, if_neg fun hc => hc.1 ho]
    · rw [if_neg ho, if_pos ⟨ho, hv⟩, P2_dst h k hv, h.abeta k hv, chg_row, chg_bt, mul_assoc, mul_comm (D.q (D.al k))]
  · rw [if_neg (show ¬ (0 < D.seg k ∧ k ≠ 0) from hv), if_neg fun hc => hv hc.2]

theorem pass2 (n : ℕ) (hn : n ≤ 50) : P2 D (2000 * n) (runSt (F := Ideal) X (100 + n)) := by
  induction n with
  | zero =>
    have h := pass1 hX 50 le_rfl
    exact {
      segc := h.segc, betak := h.betak, pnum := h.pnum, pden := h.pden, w0 := h.w0, w1 := h.w1, w2 := h.w2, w3 := h.w3
      ax0 := fun k hv => (inv_end k hv (h.inv k)).1
      ax1 := fun k hv => (inv_end k hv (h.inv k)).2.1
      abeta := fun k hv => (inv_end k hv (h.inv k)).2.2 }
  | succ n ih =>
    have h := ih (by omega)
    have hb := hX (100 + n) (by omega)
    rw [show (100 + n) % 50 = n by omega] at hb
    have hs : runSt (F := Ideal) X (100 + (n + 1)) = step2 (X (100 + n)) (runSt (F := Ideal) X (100 + n)) := by
      show stepAt (100 + n) (X (100 + n)) (runSt (F := Ideal) X (100 + n)) = _
      rw [stepAt, if_neg (by omega), if_neg (by omega)]
    rw [hs]
    exact {
      segc := h.segc, betak := h.betak, pnum := h.pnum, pden := h.pden, w0 := h.w0, w1 := h.w1
      ax0 := h.ax0, ax1 := h.ax1, abeta := h.abeta
      w2 := by
        rw [step2_w2 hb, sum_block, h.w2]
        exact congrArg _ (Finset.sum_congr rfl fun r _ => Finset.sum_congr rfl fun k _ => att_term h _ k)
      w3 := by
        rw [step2_w3 hb, sum_block, h.w3]
        exact congrArg _ (Finset.sum_congr rfl fun r _ => Finset.sum_congr rfl fun k _ => rep_term h _ k) }

/-- The loss that the last point writes. -/
theorem fin_loss (i j : Fin 1) : fin (runSt (F := Ideal) X 150) (ix2 i j) = D.loss := by
  have h := pass2 hX 50 le_rfl
  rw [show 100 + 50 = 150 from rfl] at h
  have hv : ∀ k, (if 0 < D.seg k ∧ k ≠ 0 then (1 : EReal) else 0) = D.vv k := fun k => rfl
  have hs : ∀ k, (if 0 < D.seg k ∧ k ≠ 0 then D.seg k else 0) = D.seg k * D.vv k := fun k => by
    by_cases hv : D.valid k
    · rw [if_pos (show 0 < D.seg k ∧ k ≠ 0 from hv), Data.vv, if_pos hv, mul_one]
    · rw [if_neg (show ¬ (0 < D.seg k ∧ k ≠ 0) from hv), Data.vv, if_neg hv, mul_zero]
  have hp : ∀ k, ((0 : EReal) < D.vv k) ↔ D.valid k := fun k => by
    by_cases hv : D.valid k
    · rw [Data.vv, if_pos hv]; exact iff_of_true zero_lt_one hv
    · rw [Data.vv, if_neg hv]; exact iff_of_false (lt_irrefl _) hv
  rw [fin_at]
  simp only [h.segc, h.betak, h.pnum, h.pden, h.w0, h.w1, h.w2, h.w3, hv, hs, hp]
  rfl

end Passes

end Cert.KernelIdeal.Body

end
-- ==== Proof.KernelIdealValue.lean ====
module

public import proofs.«01_k».proof.Proof.KernelIdealLoss
public import Idealize.ShloMosaic.Lib.Claim
public import Idealize.ShloMosaic.Lib.Pipeline.ValueKit

@[expose] public section

set_option maxRecDepth 16384

/-!
# The blocks that the body reads

Before the call the columns are packed into one table of sixteen columns. A block holds 2000 rows of it, so the body's
steps run over the argument arrays.
-/

noncomputable section

namespace Cert.KernelIdeal.Body

open Idealize.ShloMosaic Idealize.ShloMosaic.TcCoe Idealize.SL.Sem Cert.KernelIdeal Cert.KernelIdeal.Gen Cert.Spec

/-- The packed table: the columns one after the other, then four columns of zeros. -/
def pack (f0 : FVec Ideal S100000x1 .f32) (f1 : FVec Ideal S100000x2 .f32) (f2 : FVec Ideal S100000x1 .f32)
    (f3 : FVec Ideal S100000x2 .f32) (f4 f7 : FVec Ideal S100000x1 .f32) (f8 : FVec Ideal S100000x2 .f32)
    (f9 f6 : FVec Ideal S100000x1 .f32) (z : FVec Ideal S100000x4 .f32) : FVec Ideal S100000x16 .f32 :=
  concatenate S100000x16 1 [⟨S100000x1, f0⟩, ⟨S100000x2, f1⟩, ⟨S100000x1, f2⟩, ⟨S100000x2, f3⟩, ⟨S100000x1, f4⟩,
    ⟨S100000x1, f7⟩, ⟨S100000x2, f8⟩, ⟨S100000x1, f9⟩, ⟨S100000x1, f6⟩, ⟨S100000x4, z⟩]
    concatenates_S100000x1_S100000x2_S100000x1_S100000x2_S100000x1_S100000x1_S100000x2_S100000x1_S100000x1_S100000x4_S100000x16_d1

section
variable (f0 : FVec Ideal S100000x1 .f32) (f1 : FVec Ideal S100000x2 .f32) (f2 : FVec Ideal S100000x1 .f32)
    (f3 : FVec Ideal S100000x2 .f32) (f4 f7 : FVec Ideal S100000x1 .f32) (f8 : FVec Ideal S100000x2 .f32)
    (f9 f6 : FVec Ideal S100000x1 .f32) (z : FVec Ideal S100000x4 .f32) (i : Fin 100000)

theorem pack0 : pack f0 f1 f2 f3 f4 f7 f8 f9 f6 z (ix2 i 0) = f0 (ix2 i 0) := by pointwise [pack]
theorem pack1 : pack f0 f1 f2 f3 f4 f7 f8 f9 f6 z (ix2 i 1) = f1 (ix2 i 0) := by pointwise [pack]
theorem pack2 : pack f0 f1 f2 f3 f4 f7 f8 f9 f6 z (ix2 i 2) = f1 (ix2 i 1) := by pointwise [pack]
theorem pack3 : pack f0 f1 f2 f3 f4 f7 f8 f9 f6 z (ix2 i 3) = f2 (ix2 i 0) := by pointwise [pack]
theorem pack4 : pack f0 f1 f2 f3 f4 f7 f8 f9 f6 z (ix2 i 4) = f3 (ix2 i 0) := by pointwise [pack]
theorem pack5 : pack f0 f1 f2 f3 f4 f7 f8 f9 f6 z (ix2 i 5) = f3 (ix2 i 1) := by pointwise [pack]
theorem pack6 : pack f0 f1 f2 f3 f4 f7 f8 f9 f6 z (ix2 i 6) = f4 (ix2 i 0) := by pointwise [pack]
theorem pack7 : pack f0 f1 f2 f3 f4 f7 f8 f9 f6 z (ix2 i 7) = f7 (ix2 i 0) := by pointwise [pack]
theorem pack8 : pack f0 f1 f2 f3 f4 f7 f8 f9 f6 z (ix2 i 8) = f8 (ix2 i 0) := by pointwise [pack]
theorem pack9 : pack f0 f1 f2 f3 f4 f7 f8 f9 f6 z (ix2 i 9) = f8 (ix2 i 1) := by pointwise [pack]
theorem pack10 : pack f0 f1 f2 f3 f4 f7 f8 f9 f6 z (ix2 i 10) = f9 (ix2 i 0) := by pointwise [pack]
theorem pack11 : pack f0 f1 f2 f3 f4 f7 f8 f9 f6 z (ix2 i 11) = f6 (ix2 i 0) := by pointwise [pack]
end

variable (m : (ℓ : Loc nD τ sig) → Buf (Elt Ideal) ℓ)

theorem idx0 (t : Fin cfg0.N) : win0_0.index t 0 = t.val % 50 := by
  have h : win0_0.index t 0 = (BitVec.ofNat 32 (grid0.coords t 1).val).toNat := rfl
  rw [h, crd1, BitVec.toNat_ofNat, Nat.div_one, Nat.mod_eq_of_lt (by omega)]

theorem idx1 (t : Fin cfg0.N) : win0_0.index t 1 = 0 := rfl

theorem blk_read (c : Dev nD) (n : ℕ) (r : Fin 2000) (j : Fin 16) :
    blkAt m c n (ix2 r j) = V m c main_v3 (ix2 ⟨2000 * (n % 50) + r, by omega⟩ j) := by
  unfold blkAt iblk
  blk_simp
  blk_ext [idx0, idx1]

open StableHlo in
/-- Packing the columns writes the packed table. -/
theorem packed (W : Valuation τ sig (Elt Ideal)) :
    (StableHlo.nary ![main_arg0, main_arg1, main_arg2, main_arg3, main_arg4, main_arg7, main_arg8, main_arg9, main_v1, main_v2] main_v3 (fun u => (concatenate S100000x16 1 [⟨S100000x1, (u 0 : (⟨S100000x1, .f32⟩ : BufTy).Contents (Elt Ideal))⟩, ⟨S100000x2, (u 1 : (⟨S100000x2, .f32⟩ : BufTy).Contents (Elt Ideal))⟩, ⟨S100000x1, (u 2 : (⟨S100000x1, .f32⟩ : BufTy).Contents (Elt Ideal))⟩, ⟨S100000x2, (u 3 : (⟨S100000x2, .f32⟩ : BufTy).Contents (Elt Ideal))⟩, ⟨S100000x1, (u 4 : (⟨S100000x1, .f32⟩ : BufTy).Contents (Elt Ideal))⟩, ⟨S100000x1, (u 5 : (⟨S100000x1, .f32⟩ : BufTy).Contents (Elt Ideal))⟩, ⟨S100000x2, (u 6 : (⟨S100000x2, .f32⟩ : BufTy).Contents (Elt Ideal))⟩, ⟨S100000x1, (u 7 : (⟨S100000x1, .f32⟩ : BufTy).Contents (Elt Ideal))⟩, ⟨S100000x1, (u 8 : (⟨S100000x1, .f32⟩ : BufTy).Contents (Elt Ideal))⟩, ⟨S100000x4, (u 9 : (⟨S100000x4, .f32⟩ : BufTy).Contents (Elt Ideal))⟩] concatenates_S100000x1_S100000x2_S100000x1_S100000x2_S100000x1_S100000x1_S100000x2_S100000x1_S100000x1_S100000x4_S100000x16_d1 : (⟨S100000x16, .f32⟩ : BufTy).Contents (Elt Ideal)))).result W
        (Proc.devRef .tc main_v3)
      = pack (W (Proc.devRef .tc main_arg0)) (W (Proc.devRef .tc main_arg1)) (W (Proc.devRef .tc main_arg2))
          (W (Proc.devRef .tc main_arg3)) (W (Proc.devRef .tc main_arg4)) (W (Proc.devRef .tc main_arg7))
          (W (Proc.devRef .tc main_arg8)) (W (Proc.devRef .tc main_arg9)) (W (Proc.devRef .tc main_v1))
          (W (Proc.devRef .tc main_v2)) :=
  StableHlo.nary_result _ _ _ _ _ _

open StableHlo in
theorem entry (c : Dev nD) : V m c main_v3
    = pack (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg7))
        (m ((c.tc : Thread nD τ).loc main_arg8)) (m ((c.tc : Thread nD τ).loc main_arg9))
        (sitofp .f32 (shapeCast S100000x1 (m ((c.tc : Thread nD τ).loc main_arg6)) shapeCasts_S100000_S100000x1))
        (broadcastInDim S100000x4 ![] bcast_S_S100000x4 (constant S_ .f32 0x00000000#32)) := by
  refine (packed _).trans ?_
  congr 1 <;> after_results

/-- The hits, from the argument arrays. -/
def dat (c : Dev nD) : Data :=
  Data.of (fun i => m ((c.tc : Thread nD τ).loc main_arg0) (ix2 i 0))
    (fun i => m ((c.tc : Thread nD τ).loc main_arg1) (ix2 i 0))
    (fun i => m ((c.tc : Thread nD τ).loc main_arg1) (ix2 i 1))
    (fun i => m ((c.tc : Thread nD τ).loc main_arg2) (ix2 i 0))
    (fun i => m ((c.tc : Thread nD τ).loc main_arg3) (ix2 i 0))
    (fun i => m ((c.tc : Thread nD τ).loc main_arg3) (ix2 i 1))
    (fun i => m ((c.tc : Thread nD τ).loc main_arg4) (ix2 i 0))
    (fun i => m ((c.tc : Thread nD τ).loc main_arg7) (ix2 i 0))
    (fun i => m ((c.tc : Thread nD τ).loc main_arg8) (ix2 i 0))
    (fun i => m ((c.tc : Thread nD τ).loc main_arg8) (ix2 i 1))
    (fun i => m ((c.tc : Thread nD τ).loc main_arg9) (ix2 i 0))
    (fun i => m ((c.tc : Thread nD τ).loc main_arg6) (ix1 i))

theorem id_cast (a : IVec S100000 32) (i : Fin 100000) :
    (sitofp .f32 (shapeCast S100000x1 a shapeCasts_S100000_S100000x1) : FVec Ideal S100000x1 .f32) (ix2 i 0)
      = FloatOps.sitofp (F := Ideal) .f32 (a (ix1 i)) := by pointwise []

theorem blk_dat (c : Dev nD) (n : ℕ) : Blk (dat m c) (2000 * (n % 50)) (blkAt m c n) where
  b r := by
    rw [blk_read, entry, pack0]
    exact (row_at (0 : EReal) (fun i : Fin 100000 => m ((c.tc : Thread nD τ).loc main_arg0) (ix2 i 0)) _ (by omega)).symm
  x0 r := by
    rw [blk_read, entry, pack1]
    exact (row_at (0 : EReal) (fun i : Fin 100000 => m ((c.tc : Thread nD τ).loc main_arg1) (ix2 i 0)) _ (by omega)).symm
  x1 r := by
    rw [blk_read, entry, pack2]
    exact (row_at (0 : EReal) (fun i : Fin 100000 => m ((c.tc : Thread nD τ).loc main_arg1) (ix2 i 1)) _ (by omega)).symm
  pe r := by
    rw [blk_read, entry, pack3]
    exact (row_at (0 : EReal) (fun i : Fin 100000 => m ((c.tc : Thread nD τ).loc main_arg2) (ix2 i 0)) _ (by omega)).symm
  px r := by
    rw [blk_read, entry, pack4]
    exact (row_at (0 : EReal) (fun i : Fin 100000 => m ((c.tc : Thread nD τ).loc main_arg3) (ix2 i 0)) _ (by omega)).symm
  py r := by
    rw [blk_read, entry, pack5]
    exact (row_at (0 : EReal) (fun i : Fin 100000 => m ((c.tc : Thread nD τ).loc main_arg3) (ix2 i 1)) _ (by omega)).symm
  pt r := by
    rw [blk_read, entry, pack6]
    exact (row_at (0 : EReal) (fun i : Fin 100000 => m ((c.tc : Thread nD τ).loc main_arg4) (ix2 i 0)) _ (by omega)).symm
  te r := by
    rw [blk_read, entry, pack7]
    exact (row_at (0 : EReal) (fun i : Fin 100000 => m ((c.tc : Thread nD τ).loc main_arg7) (ix2 i 0)) _ (by omega)).symm
  tx r := by
    rw [blk_read, entry, pack8]
    exact (row_at (0 : EReal) (fun i : Fin 100000 => m ((c.tc : Thread nD τ).loc main_arg8) (ix2 i 0)) _ (by omega)).symm
  ty r := by
    rw [blk_read, entry, pack9]
    exact (row_at (0 : EReal) (fun i : Fin 100000 => m ((c.tc : Thread nD τ).loc main_arg8) (ix2 i 1)) _ (by omega)).symm
  tt r := by
    rw [blk_read, entry, pack10]
    exact (row_at (0 : EReal) (fun i : Fin 100000 => m ((c.tc : Thread nD τ).loc main_arg9) (ix2 i 0)) _ (by omega)).symm
  id r := by
    rw [blk_read, entry, pack11, id_cast]
    exact congrArg (FloatOps.sitofp (F := Ideal) .f32)
      (row_at 0#32 (fun i : Fin 100000 => m ((c.tc : Thread nD τ).loc main_arg6) (ix1 i)) _ (by omega)).symm

/-- The kernel's second result is the loss of its arguments. -/
theorem kernel_loss (c : Dev nD) : fin (stAt m c 150) = fun _ => (dat m c).loss := by
  funext j
  rw [show j = ix2 (j 0) (j 1) from ?_]
  · exact fin_loss (fun n _ => blk_dat m c n) _ _
  · funext a
    fin_cases a <;> rfl

end Cert.KernelIdeal.Body

end
-- ==== Proof.ReferenceScatter.lean ====
module

public import proofs.«01_k».proof.Proof.Facts
public import proofs.«01_k».proof.Proof.Gen.ReferenceIdeal
public import Idealize.ShloMosaic.Lib.Routing.OpsOne
public import Idealize.ShloMosaic.Lib.Routing.OpsSet

@[expose] public section

/-!
# The reference's scatters and gathers, at one element

A hit is added to the object whose number it carries. A number outside of the table adds nothing.
-/

noncomputable section

namespace Cert.ReferenceIdeal.Value

open Idealize.ShloMosaic Idealize.ShloMosaic.Routing Cert.ReferenceIdeal

/-- A word is the number `k` of an object when it is `k` as a signed number. -/
theorem word_obj (x : BitVec 32) (k : Fin 256) : x.toInt = (k.val : Int) ↔ x = BitVec.ofNat 32 k := by
  have h : (BitVec.ofNat 32 k.val).toInt = (k.val : Int) := StableHlo.Predicate.toInt_ofNat_small _ (by omega)
  rw [← BitVec.toInt_inj, h]

/-- The hit `i` goes to the object `k` when `k` is the number it carries. -/
theorem lands (idx : IVec S100000x1 32) (i : Fin 100000) (k : Fin 256) :
    scatter_S256_S100000x1_S100000_n_0_0_1.resultIdx? (ix1 i) idx = some (ix1 k) ↔ idx (ix2 i 0) = BitVec.ofNat 32 k := by
  have hm : (0 : Fin 1) ∈ scatter_S256_S100000x1_S100000_n_0_0_1.scatterDimsToOperandDims := List.mem_singleton.2 rfl
  have hw : scatter_S256_S100000x1_S100000_n_0_0_1.window (ix1 i) 0 = 0 := by
    rw [ScatterDims.window, dif_neg]
    intro h
    exact of_decide_eq_true (List.mem_filter.1 h).2 (List.mem_singleton.2 rfl)
  have hs : scatter_S256_S100000x1_S100000_n_0_0_1.start (ix1 i) idx 0 = (idx (ix2 i 0)).toInt := by
    rw [ScatterDims.start, dif_pos hm]
    refine congrArg (fun j => (idx j).toInt) (funext fun b => Fin.ext ?_)
    match b with
    | ⟨0, _⟩ => rfl
    | ⟨1, _⟩ => rfl
  refine (resultIdx?_ix1 scatter_S256_S100000x1_S100000_n_0_0_1 (ix1 i) idx k).trans ?_
  rw [hs, hw, ← word_obj]
  simp

/-- The sum over the hits of an object. -/
theorem scatterAdd_row (x0 : FVec Ideal S256 .f32) (idx : IVec S100000x1 32) (upd : FVec Ideal S100000 .f32) (k : Fin 256) :
    Host.scatterAdd scatter_S256_S100000x1_S100000_n_0_0_1 x0 idx upd (ix1 k)
      = x0 (ix1 k) + ∑ i : Fin 100000, if idx (ix2 i 0) = BitVec.ofNat 32 k then upd (ix1 i) else (0 : EReal) := by
  refine (congrFun (Ideal.hostScatterAdd_def _ _ _ _ _) _).trans ?_
  refine congrArg (fun s : EReal => x0 (ix1 k) + s) ?_
  rw [Finset.sum_filter]
  refine (sum_idx1 _).trans ?_
  exact Finset.sum_congr rfl fun i _ => if_congr (lands idx i k) rfl rfl

/-- The smaller of two words, as signed numbers. -/
theorem minsi_le (a b : BitVec 32) :
    (IntOp.minsi a b).toInt ≤ a.toInt ∧ (IntOp.minsi a b).toInt ≤ b.toInt ∧ (IntOp.minsi a b = a ∨ IntOp.minsi a b = b) := by
  rw [IntOp.minsi]
  split
  · next h => exact ⟨le_rfl, by have := BitVec.slt_iff_toInt_lt.1 h; omega, .inl rfl⟩
  · next h => exact ⟨by have := mt BitVec.slt_iff_toInt_lt.2 h; omega, le_rfl, .inr rfl⟩

/-- The running minimum of the words that a test admits. -/
theorem minsi_fold {α : Type} (p : α → Prop) [DecidablePred p] (f : α → BitVec 32) (l : List α) (a : BitVec 32) :
    (l.foldl (fun a n => if p n then IntOp.minsi a (f n) else a) a).toInt ≤ a.toInt
      ∧ (∀ n ∈ l, p n → (l.foldl (fun a n => if p n then IntOp.minsi a (f n) else a) a).toInt ≤ (f n).toInt)
      ∧ (l.foldl (fun a n => if p n then IntOp.minsi a (f n) else a) a = a
        ∨ ∃ n ∈ l, p n ∧ l.foldl (fun a n => if p n then IntOp.minsi a (f n) else a) a = f n) := by
  induction l generalizing a with
  | nil => exact ⟨le_rfl, nofun, .inl rfl⟩
  | cons x l ih =>
    rw [List.foldl_cons]
    by_cases hx : p x
    · rw [if_pos hx]
      obtain ⟨h1, h2, h3⟩ := ih (IntOp.minsi a (f x))
      obtain ⟨m1, m2, m3⟩ := minsi_le a (f x)
      refine ⟨h1.trans m1, ?_, ?_⟩
      · intro n hn hp
        rcases List.mem_cons.1 hn with rfl | hn
        · exact h1.trans m2
        · exact h2 n hn hp
      · rcases h3 with h3 | ⟨n, hn, hp, h3⟩
        · rcases m3 with m3 | m3
          · exact .inl (h3.trans m3)
          · exact .inr ⟨x, List.mem_cons_self, hx, h3.trans m3⟩
        · exact .inr ⟨n, List.mem_cons_of_mem _ hn, hp, h3⟩
    · rw [if_neg hx]
      obtain ⟨h1, h2, h3⟩ := ih a
      refine ⟨h1, ?_, ?_⟩
      · intro n hn hp
        rcases List.mem_cons.1 hn with rfl | hn
        · exact absurd hp hx
        · exact h2 n hn hp
      · rcases h3 with h3 | ⟨n, hn, hp, h3⟩
        · exact .inl h3
        · exact .inr ⟨n, List.mem_cons_of_mem _ hn, hp, h3⟩

/-- The smallest of the words that the hits of an object bring. -/
theorem scatterMin_row (x0 : IVec S256 32) (idx : IVec S100000x1 32) (upd : IVec S100000 32) (k : Fin 256) (m : BitVec 32)
    (hm : m = Host.scatter scatter_S256_S100000x1_S100000_n_0_0_1 IntOp.minsi x0 idx upd (ix1 k)) :
    (∀ i : Fin 100000, idx (ix2 i 0) = BitVec.ofNat 32 k → m.toInt ≤ (upd (ix1 i)).toInt)
      ∧ (m = x0 (ix1 k) ∨ ∃ i : Fin 100000, idx (ix2 i 0) = BitVec.ofNat 32 k ∧ m = upd (ix1 i)) := by
  rw [scatter_at] at hm
  obtain ⟨-, h2, h3⟩ := minsi_fold
    (fun n : Fin S100000.numel => scatter_S256_S100000x1_S100000_n_0_0_1.resultIdx? (S100000.rowMajor.symm n) idx = some (ix1 k))
    (fun n => upd (S100000.rowMajor.symm n)) (List.finRange S100000.numel) (x0 (ix1 k))
  rw [← hm] at h2 h3
  refine ⟨fun i hi => ?_, ?_⟩
  · have := h2 (S100000.rowMajor (ix1 i)) (List.mem_finRange _) (by rw [Equiv.symm_apply_apply]; exact (lands idx i k).2 hi)
    rwa [Equiv.symm_apply_apply] at this
  · rcases h3 with h3 | ⟨n, -, hp, h3⟩
    · exact .inl h3
    · rw [show S100000.rowMajor.symm n = ix1 (S100000.rowMajor.symm n 0) from eq_ix1 _] at hp h3
      exact .inr ⟨_, (lands idx _ k).1 hp, h3⟩

/-- A scalar has one index. -/
theorem scalar_index (j : S_.Idx) : j = ix0 := funext fun a => a.elim0

/-- Object zero is set, the others are kept. -/
theorem scatterSet_row (x0 : IVec S256 1) (idx : IVec S1 32) (upd : IVec S_ 1) (hidx : idx (ix1 0) = 0#32) (k : Fin 256) :
    Host.scatter scatter_S256_S1_S__n_0_0_0 (fun _ b => b) x0 idx upd (ix1 k) = if k = 0 then upd ix0 else x0 (ix1 k) := by
  have hl : ∀ j, scatter_S256_S1_S__n_0_0_0.resultIdx? j idx = some (ix1 k) ↔ k = 0 := fun j => by
    rw [scalar_index j]
    exact lands_one scatter_S256_S1_S__n_0_0_0 rfl rfl idx 0 ((congrArg BitVec.toInt hidx).trans rfl) k
  by_cases h : k = 0
  · rw [if_pos h]
    exact scatter_set_hit _ x0 idx upd _ _ (fun j _ => congrArg upd (scalar_index j)) ix0 ((hl ix0).2 h)
  · rw [if_neg h]
    exact scatter_set_miss _ x0 idx upd _ fun j hj => h ((hl j).1 hj)

/-- An object's entry of a table, taken by the hits of the object. -/
theorem gather_obj (x : FVec Ideal S256 .f32) (idx : IVec S100000x1 32) (i : Fin 100000) (k : Fin 256)
    (h : idx (ix2 i 0) = BitVec.ofNat 32 k) :
    Host.gather gather_S256_S100000x1_S100000_n_0_n_n_0_1_1 x idx (ix1 i) = x (ix1 k) :=
  gather_take1 _ rfl rfl rfl rfl x idx i k h (by norm_num)

/-- A hit's entry of a column, taken by an object. -/
theorem gather_hit (x : FVec Ideal S100000 .f32) (idx : IVec S256x1 32) (k : Fin 256) (i : Fin 100000)
    (h : idx (ix2 k 0) = BitVec.ofNat 32 i) :
    Host.gather gather_S100000_S256x1_S256_n_0_n_n_0_1_1 x idx (ix1 k) = x (ix1 i) :=
  gather_take1 _ rfl rfl rfl rfl x idx k i h (by norm_num)

/-- A hit's row of two coordinates, taken by an object. -/
theorem gather_pair (x : FVec Ideal S100000x2 .f32) (idx : IVec S256x1 32) (k : Fin 256) (i : Fin 100000) (c : Fin 2)
    (h : idx (ix2 k 0) = BitVec.ofNat 32 i) :
    Host.gather gather_S100000x2_S256x1_S256x2_1_0_n_n_0_1_12 x idx (ix2 k c) = x (ix2 i c) :=
  gather_row _ rfl rfl rfl rfl rfl x idx k c i h (by norm_num)

end Cert.ReferenceIdeal.Value

end
-- ==== Proof.ReferenceRows.lean ====
module

public import proofs.«01_k».proof.Proof.Facts
public import proofs.«01_k».proof.Proof.KernelIdealLoss
public import proofs.«01_k».proof.Proof.ReferenceScatter
public import proofs.«01_k».proof.Proof.Gen.ReferenceIdeal.Run
public import Idealize.ShloMosaic.Lib.Pointwise
public import Idealize.ShloMosaic.Lib.Tactic.CleanTypes
public import Idealize.ShloMosaic.Lib.WordCmp

@[expose] public section

set_option maxRecDepth 16384

/-!
# The reference, row by row

The values that the reference computes for one hit alone, written with the functions of `Spec`.
-/

noncomputable section

namespace Cert.ReferenceIdeal.Value

open Idealize.ShloMosaic Idealize.SL.Sem Cert.ReferenceIdeal Cert.Spec
open Cert.KernelIdeal.Body (and_bit not_bit select_bit)

variable (V0 : Valuation τ sig (Elt Ideal))

/-- The hits, from the argument arrays. -/
def dat : Data :=
  Data.of (fun i => (V0 (Proc.devRef .tc main_arg0) : FVec Ideal S100000x1 .f32) (ix2 i 0))
    (fun i => (V0 (Proc.devRef .tc main_arg1) : FVec Ideal S100000x2 .f32) (ix2 i 0))
    (fun i => (V0 (Proc.devRef .tc main_arg1) : FVec Ideal S100000x2 .f32) (ix2 i 1))
    (fun i => (V0 (Proc.devRef .tc main_arg2) : FVec Ideal S100000x1 .f32) (ix2 i 0))
    (fun i => (V0 (Proc.devRef .tc main_arg3) : FVec Ideal S100000x2 .f32) (ix2 i 0))
    (fun i => (V0 (Proc.devRef .tc main_arg3) : FVec Ideal S100000x2 .f32) (ix2 i 1))
    (fun i => (V0 (Proc.devRef .tc main_arg4) : FVec Ideal S100000x1 .f32) (ix2 i 0))
    (fun i => (V0 (Proc.devRef .tc main_arg7) : FVec Ideal S100000x1 .f32) (ix2 i 0))
    (fun i => (V0 (Proc.devRef .tc main_arg8) : FVec Ideal S100000x2 .f32) (ix2 i 0))
    (fun i => (V0 (Proc.devRef .tc main_arg8) : FVec Ideal S100000x2 .f32) (ix2 i 1))
    (fun i => (V0 (Proc.devRef .tc main_arg9) : FVec Ideal S100000x1 .f32) (ix2 i 0))
    (fun i => (V0 (Proc.devRef .tc main_arg6) : IVec S100000 32) (ix1 i))

variable (i : Fin 100000)

/-- The raw score. -/
theorem dat_b : (V0 (Proc.devRef .tc main_arg0) : FVec Ideal S100000x1 .f32) (ix2 i 0) = (dat V0).b i :=
  (row_at (0 : EReal) (fun i => (V0 (Proc.devRef .tc main_arg0) : FVec Ideal S100000x1 .f32) (ix2 i 0)) i i.isLt).symm

/-- The first cluster coordinate. -/
theorem dat_x0 : (V0 (Proc.devRef .tc main_arg1) : FVec Ideal S100000x2 .f32) (ix2 i 0) = (dat V0).x0 i :=
  (row_at (0 : EReal) (fun i => (V0 (Proc.devRef .tc main_arg1) : FVec Ideal S100000x2 .f32) (ix2 i 0)) i i.isLt).symm

/-- The second cluster coordinate. -/
theorem dat_x1 : (V0 (Proc.devRef .tc main_arg1) : FVec Ideal S100000x2 .f32) (ix2 i 1) = (dat V0).x1 i :=
  (row_at (0 : EReal) (fun i => (V0 (Proc.devRef .tc main_arg1) : FVec Ideal S100000x2 .f32) (ix2 i 1)) i i.isLt).symm

/-- The predicted energy. -/
theorem dat_pe : (V0 (Proc.devRef .tc main_arg2) : FVec Ideal S100000x1 .f32) (ix2 i 0) = (dat V0).pe i :=
  (row_at (0 : EReal) (fun i => (V0 (Proc.devRef .tc main_arg2) : FVec Ideal S100000x1 .f32) (ix2 i 0)) i i.isLt).symm

/-- The first predicted position. -/
theorem dat_px : (V0 (Proc.devRef .tc main_arg3) : FVec Ideal S100000x2 .f32) (ix2 i 0) = (dat V0).px i :=
  (row_at (0 : EReal) (fun i => (V0 (Proc.devRef .tc main_arg3) : FVec Ideal S100000x2 .f32) (ix2 i 0)) i i.isLt).symm

/-- The second predicted position. -/
theorem dat_py : (V0 (Proc.devRef .tc main_arg3) : FVec Ideal S100000x2 .f32) (ix2 i 1) = (dat V0).py i :=
  (row_at (0 : EReal) (fun i => (V0 (Proc.devRef .tc main_arg3) : FVec Ideal S100000x2 .f32) (ix2 i 1)) i i.isLt).symm

/-- The predicted time. -/
theorem dat_pt : (V0 (Proc.devRef .tc main_arg4) : FVec Ideal S100000x1 .f32) (ix2 i 0) = (dat V0).pt i :=
  (row_at (0 : EReal) (fun i => (V0 (Proc.devRef .tc main_arg4) : FVec Ideal S100000x1 .f32) (ix2 i 0)) i i.isLt).symm

/-- The true energy. -/
theorem dat_te : (V0 (Proc.devRef .tc main_arg7) : FVec Ideal S100000x1 .f32) (ix2 i 0) = (dat V0).te i :=
  (row_at (0 : EReal) (fun i => (V0 (Proc.devRef .tc main_arg7) : FVec Ideal S100000x1 .f32) (ix2 i 0)) i i.isLt).symm

/-- The first true position. -/
theorem dat_tx : (V0 (Proc.devRef .tc main_arg8) : FVec Ideal S100000x2 .f32) (ix2 i 0) = (dat V0).tx i :=
  (row_at (0 : EReal) (fun i => (V0 (Proc.devRef .tc main_arg8) : FVec Ideal S100000x2 .f32) (ix2 i 0)) i i.isLt).symm

/-- The second true position. -/
theorem dat_ty : (V0 (Proc.devRef .tc main_arg8) : FVec Ideal S100000x2 .f32) (ix2 i 1) = (dat V0).ty i :=
  (row_at (0 : EReal) (fun i => (V0 (Proc.devRef .tc main_arg8) : FVec Ideal S100000x2 .f32) (ix2 i 1)) i i.isLt).symm

/-- The true time. -/
theorem dat_tt : (V0 (Proc.devRef .tc main_arg9) : FVec Ideal S100000x1 .f32) (ix2 i 0) = (dat V0).tt i :=
  (row_at (0 : EReal) (fun i => (V0 (Proc.devRef .tc main_arg9) : FVec Ideal S100000x1 .f32) (ix2 i 0)) i i.isLt).symm

/-- The object number. -/
theorem dat_id : (V0 (Proc.devRef .tc main_arg6) : IVec S100000 32) (ix1 i) = (dat V0).id i :=
  (row_at (0#32) (fun i => (V0 (Proc.devRef .tc main_arg6) : IVec S100000 32) (ix1 i)) i i.isLt).symm

/-- An equality test of words. -/
theorem eq_bit (a b : BitVec 32) : IntOp.cmpi .eq a b = BitVec.ofBool (decide (a = b)) := by
  by_cases h : a = b <;> simp [h, IntOp.cmpi, beq_eq_decide]

/-- The other answer to a test. -/
theorem compl_bit (p : Prop) [Decidable p] : ~~~BitVec.ofBool (decide p) = BitVec.ofBool (decide (¬ p)) := by
  by_cases hp : p <;> simp [hp]

/-- A maximum over the rows. -/
theorem max_rows (f : ℕ → EReal) : Finset.univ.fold max ⊥ (fun i : Fin 100000 => f i) = (Finset.range 100000).fold max ⊥ f := by
  show Finset.univ.sup (fun i : Fin 100000 => f i) = (Finset.range 100000).sup f
  refine le_antisymm (Finset.sup_le fun i _ => Finset.le_sup (f := f) (Finset.mem_range.2 i.isLt)) (Finset.sup_le fun i hi => ?_)
  exact Finset.le_sup (f := fun i : Fin 100000 => f i) (Finset.mem_univ ⟨i, Finset.mem_range.1 hi⟩)

/-- The clipped score. -/
theorem v1_at : (res_main_v1 V0 : FVec Ideal S100000 .f32) (ix1 i) = (dat V0).bt i := by
  unfold res_main_v1
  clean_types
  pointwise [dat_b V0]
  rfl

/-- The noise test. -/
theorem v7_at : (res_main_v7 V0 : IVec S100000 1) (ix1 i) = BitVec.ofBool (decide ((dat V0).noise i)) := by
  unfold res_main_v7
  clean_types
  pointwise [dat_id V0]
  rfl

/-- The charge. -/
theorem v5_at : (res_main_v5 V0 : FVec Ideal S100000 .f32) (ix1 i) = (dat V0).q i := by
  unfold res_main_v5 res_main_v2
  clean_types
  pointwise [v1_at V0]
  rfl

/-- The clipped score, minus one on noise. -/
theorem v17_at : (res_main_v17 V0 : FVec Ideal S100000 .f32) (ix1 i) = (dat V0).bm i := by
  unfold res_main_v17
  clean_types
  pointwise [v1_at V0, v7_at V0]
  rfl

/-- The clipped score, zero on noise. -/
theorem v164_at : (res_main_v164 V0 : FVec Ideal S100000 .f32) (ix1 i) = (dat V0).pw i := by
  unfold res_main_v164
  clean_types
  simp only [id_eq]
  pointwise [v1_at V0, v7_at V0]
  rfl

/-- A hit of an object that is not noise. -/
theorem v76_at (k : Fin 256) :
    (res_main_v76 V0 : IVec S100000x256 1) (ix2 i k) = BitVec.ofBool (decide ((dat V0).oh k i ∧ ¬ (dat V0).noise i)) := by
  unfold res_main_v76
  clean_types
  pointwise [dat_id V0, v7_at V0]
  simp only [eq_bit, compl_bit, and_bit]
  rfl

/-- The count of an object. -/
theorem v12_at (k : Fin 256) : (res_main_v12 V0 : FVec Ideal S256 .f32) (ix1 k) = (dat V0).seg k := by
  unfold res_main_v12
  clean_types
  rw [scatterAdd_row]
  simp only [id_eq]
  pointwise [dat_id V0, v7_at V0]
  rw [Data.seg, Finset.sum_range]
  refine Finset.sum_congr rfl fun i _ => ?_
  rw [Data.gseg]
  by_cases h : (dat V0).noise i
  · rw [if_pos h, ite_self, if_neg (fun hh => hh.2 h)]
  · rw [if_neg h]
    exact if_congr (and_iff_left h).symm rfl rfl

/-- The payload denominator of an object. -/
theorem v171_at (k : Fin 256) : (res_main_v171 V0 : FVec Ideal S256 .f32) (ix1 k) = (dat V0).pd k := by
  unfold res_main_v171
  clean_types
  rw [scatterAdd_row]
  pointwise [dat_id V0, v164_at V0]
  rw [Data.pd, Finset.sum_range]
  rfl

/-- The largest score of an object. -/
theorem v26_at (k : Fin 256) : (res_main_v26 V0 : FVec Ideal S256 .f32) (ix1 k) = (dat V0).bk k := by
  unfold res_main_v26
  clean_types
  simp only [id_eq]
  pointwise [dat_id V0, v17_at V0]
  simp only [eq_bit, select_bit, bot_bits]
  exact max_rows ((dat V0).gbk k)

/-- The objects that count. -/
theorem v16_at (k : Fin 256) : (res_main_v16 V0 : IVec S256 1) (ix1 k) = BitVec.ofBool (decide ((dat V0).valid k)) := by
  unfold res_main_v16
  clean_types
  rw [scatterSet_row _ _ _ rfl]
  have hv : (dat V0).valid k ↔ 0 < (dat V0).seg k ∧ k ≠ 0 := Iff.rfl
  by_cases hk : k = 0
  · rw [if_pos hk, decide_eq_false (fun h => (hv.1 h).2 hk)]
    rfl
  · rw [if_neg hk]
    pointwise [v12_at V0]
    refine congrArg BitVec.ofBool (decide_eq_decide.2 ?_)
    rw [hv]
    exact (and_iff_left hk).symm

end Cert.ReferenceIdeal.Value

end
-- ==== Proof.ReferenceBest.lean ====
module

public import proofs.«01_k».proof.Proof.ReferenceRows

@[expose] public section

set_option maxRecDepth 16384

/-!
# The reference's choice of the first best hit of every object

The reference scatters the row numbers of the best hits and keeps the smallest. The result is the number `Data.al` of `Spec`
for an object that counts, and some row number for every object.
-/

noncomputable section

namespace Cert.ReferenceIdeal.Value

open Idealize.ShloMosaic Idealize.ShloMosaic.Routing Idealize.SL.Sem Cert.ReferenceIdeal Cert.Spec
open Cert.KernelIdeal.Body (and_bit not_bit select_bit)

instance isalDec (D : Data) (k : Fin 256) (i : ℕ) : Decidable (D.isal k i) := Classical.dec _

/-- A small number as a signed word. -/
theorem small_int (n : ℕ) (h : n < 2 ^ 31) : (BitVec.ofNat 32 n).toInt = n := StableHlo.Predicate.toInt_ofNat_small _ h

/-- A word kept between the first and the last row. -/
theorem clip_word (m : BitVec 32) : ∃ a : Fin 100000, IntOp.minsi 99999#32 (IntOp.maxsi 0#32 m) = BitVec.ofNat 32 a := by
  refine ⟨⟨(IntOp.minsi 99999#32 (IntOp.maxsi 0#32 m)).toNat, ?_⟩, by simp⟩
  by_cases h : m.slt 0#32
  · rw [show IntOp.maxsi 0#32 m = 0#32 from if_pos h]
    decide
  · rw [show IntOp.maxsi 0#32 m = m from if_neg h]
    by_cases h' : (99999#32 : BitVec 32).slt m
    · rw [show IntOp.minsi 99999#32 m = 99999#32 from if_pos h']
      decide
    · rw [show IntOp.minsi 99999#32 m = m from if_neg h']
      have h1 := mt BitVec.slt_iff_toInt_lt.2 h
      have h2 := mt BitVec.slt_iff_toInt_lt.2 h'
      rw [show (0#32 : BitVec 32).toInt = 0 from rfl] at h1
      rw [show (99999#32 : BitVec 32).toInt = 99999 from rfl] at h2
      have h3 := BitVec.toInt_eq_toNat_cond m
      have h4 := m.isLt
      split at h3 <;> omega

/-- A row number is kept. -/
theorem clip_row (n : ℕ) (h : n < 100000) : IntOp.minsi 99999#32 (IntOp.maxsi 0#32 (BitVec.ofNat 32 n)) = BitVec.ofNat 32 n := by
  have hn := small_int n (by omega)
  have h0 : IntOp.maxsi 0#32 (BitVec.ofNat 32 n) = BitVec.ofNat 32 n := by
    rw [IntOp.maxsi]
    refine if_neg fun h' => ?_
    have := BitVec.slt_iff_toInt_lt.1 h'
    rw [hn, show (0#32 : BitVec 32).toInt = 0 from rfl] at this
    omega
  rw [h0, IntOp.minsi]
  by_cases h' : (99999#32 : BitVec 32).slt (BitVec.ofNat 32 n)
  · have := BitVec.slt_iff_toInt_lt.1 h'
    rw [hn, show (99999#32 : BitVec 32).toInt = 99999 from rfl] at this
    omega
  · exact if_neg h'

/-- The smallest row number of the best hits of an object that counts is the number of its first best hit. -/
theorem best_word (D : Data) (k : Fin 256) (hv : D.valid k) (x0 : IVec S256 32) (idx : IVec S100000x1 32) (upd : IVec S100000 32)
    (h0 : x0 (ix1 k) = 2147483647#32) (hidx : ∀ i : Fin 100000, idx (ix2 i 0) = D.id i)
    (hupd : ∀ i : Fin 100000, D.oh k i → upd (ix1 i) = if D.isal k i then BitVec.ofNat 32 i else 100000#32) :
    Host.scatter scatter_S256_S100000x1_S100000_n_0_0_1 IntOp.minsi x0 idx upd (ix1 k) = BitVec.ofNat 32 (D.al k) := by
  obtain ⟨h1, h2⟩ := scatterMin_row x0 idx upd k _ rfl
  generalize Host.scatter scatter_S256_S100000x1_S100000_n_0_0_1 IntOp.minsi x0 idx upd (ix1 k) = m at h1 h2 ⊢
  have hle : ∀ i : Fin 100000, D.isal k i → m.toInt ≤ (i.val : Int) := fun i hi => by
    have := h1 i ((hidx i).trans hi.1)
    rwa [hupd i hi.1, if_pos hi, small_int _ (by omega)] at this
  obtain ⟨i0, hi0, hb⟩ := D.exists_isal k hv
  have hm := hle ⟨i0, hi0⟩ hb
  rcases h2 with h2 | ⟨i, hi, h2⟩
  · rw [h2, h0, show (2147483647#32 : BitVec 32).toInt = 2147483647 from rfl] at hm
    simp only at hm
    omega
  · have ho : D.oh k i := (hidx i).symm.trans hi
    rw [hupd i ho] at h2
    by_cases hs : D.isal k i
    · rw [if_pos hs] at h2
      rw [h2, D.al_eq k i i.isLt hs fun j hj hc => ?_]
      have := hle ⟨j, by omega⟩ hc
      rw [h2, small_int _ (by omega)] at this
      simp only at this
      omega
    · rw [if_neg hs] at h2
      rw [h2, show (100000#32 : BitVec 32).toInt = 100000 from rfl] at hm
      simp only at hm
      omega

variable (V0 : Valuation τ sig (Elt Ideal))

/-- Every object's choice is a row. -/
theorem v42_row (k : Fin 256) : ∃ a : Fin 100000, (res_main_v42 V0 : IVec S256 32) (ix1 k) = BitVec.ofNat 32 a := by
  unfold res_main_v42
  clean_types
  simp only [id_eq]
  pointwise []
  exact clip_word _

/-- An object that counts chooses its first best hit. -/
theorem v42_al (k : Fin 256) (hv : (dat V0).valid k) :
    (res_main_v42 V0 : IVec S256 32) (ix1 k) = BitVec.ofNat 32 ((dat V0).al k) := by
  have hal : (dat V0).al k < 100000 := by
    obtain ⟨i0, hi0, hb⟩ := (dat V0).exists_isal k hv
    exact (Nat.sInf_mem (s := {i | i < 100000 ∧ (dat V0).isal k i}) ⟨i0, hi0, hb⟩).1
  unfold res_main_v42
  clean_types
  simp only [id_eq]
  pointwise []
  rw [best_word (dat V0) k hv, clip_row _ hal]
  · pointwise []
  · intro i
    pointwise [dat_id V0]
  · intro i hi
    pointwise [dat_id V0, v17_at V0, v7_at V0]
    rw [gather_obj _ _ i k]
    · pointwise [v26_at V0]
      rw [compl_bit, and_bit, select_bit]
      exact if_congr (and_iff_right hi).symm rfl rfl
    · pointwise [dat_id V0]
      rw [show (dat V0).id i = BitVec.ofNat 32 k from hi]
      exact wrap_of_lt _ _ (by rw [BitVec.toNat_ofNat]; omega)

end Cert.ReferenceIdeal.Value

end
-- ==== Proof.ReferenceParts.lean ====
module

public import proofs.«01_k».proof.Proof.ReferenceRows

@[expose] public section

set_option maxRecDepth 16384

/-!
# The sums of the reference's loss

Every sum of the loss as a function of the lists that it adds up, and its value from the values of the lists.
-/

noncomputable section

namespace Cert.ReferenceIdeal.Value

open Idealize.ShloMosaic Idealize.ShloMosaic.Routing Idealize.SL.Sem Cert.ReferenceIdeal Cert.Spec Cert.ReferenceIdeal.Gen
open Cert.KernelIdeal.Body (and_bit not_bit select_bit)

/-- The attraction terms' sum. -/
def attSum (dist : FVec Ideal S100000x256 .f32) (own : IVec S100000x256 1) (valr : IVec S1x256 1) (charge : FVec Ideal S100000x256 .f32) : FVec Ideal S_ .f32 :=
  Host.reduceAdd (select (andi own (broadcastInDim S100000x256 ![0, 1] bcast_S1x256_S100000x256_0_1 valr)) (mulf dist charge) (broadcastInDim S100000x256 ![] bcast_S_S100000x256 (id (constant S_ .f32 0x00000000#32)))) (constant S_ .f32 0x00000000#32) reducesTo_S100000x256_S_d0_1 h_S_

/-- The attraction terms' number. -/
def attCount (cnt : FVec Ideal S256 .f32) (val : IVec S256 1) : FVec Ideal S_ .f32 :=
  Host.reduceAdd (mulf cnt (uitofp .f32 val)) (constant S_ .f32 0x00000000#32) reducesTo_S256_S_d0 h_S_

/-- The repulsion terms' sum. -/
def repSum (dist : FVec Ideal S100000x256 .f32) (own : IVec S100000x256 1) (valr : IVec S1x256 1) (charge : FVec Ideal S100000x256 .f32) : FVec Ideal S_ .f32 :=
  Host.reduceAdd (select (andi (noti own) (broadcastInDim S100000x256 ![0, 1] bcast_S1x256_S100000x256_0_1 valr)) (mulf (maximumf (subf (broadcastInDim S100000x256 ![] bcast_S_S100000x256 (constant S_ .f32 0x3F800000#32)) (Host.sqrt (addf dist (broadcastInDim S100000x256 ![] bcast_S_S100000x256 (constant S_ .f32 0x358637BD#32))))) (broadcastInDim S100000x256 ![] bcast_S_S100000x256 (constant S_ .f32 0x00000000#32))) charge) (broadcastInDim S100000x256 ![] bcast_S_S100000x256 (id (constant S_ .f32 0x00000000#32)))) (constant S_ .f32 0x00000000#32) reducesTo_S100000x256_S_d0_1 h_S_

/-- The sum over the objects of what the best score lacks. -/
def bestSum (v : IVec S256 1) (b : FVec Ideal S256 .f32) : FVec Ideal S_ .f32 :=
  Host.reduceAdd (select v (subf (broadcastInDim S256 ![] bcast_S_S256 (constant S_ .f32 0x3F800000#32)) (minimumf (broadcastInDim S256 ![] bcast_S_S256 (id (constant S_ .f32 0x3F800000#32))) (maximumf (broadcastInDim S256 ![] bcast_S_S256 (id (constant S_ .f32 0x00000000#32))) b))) (broadcastInDim S256 ![] bcast_S_S256 (id (constant S_ .f32 0x00000000#32)))) (constant S_ .f32 0x00000000#32) reducesTo_S256_S_d0 h_S_

/-- The noise scores' sum. -/
def noiseSum (score : FVec Ideal S100000 .f32) (noise : IVec S100000 1) : FVec Ideal S_ .f32 :=
  Host.reduceAdd (select noise score (broadcastInDim S100000 ![] bcast_S_S100000 (id (constant S_ .f32 0x00000000#32)))) (constant S_ .f32 0x00000000#32) reducesTo_S100000_S_d0 h_S_

/-- The noise rows' number. -/
def noiseCount (noise : IVec S100000 1) : FVec Ideal S_ .f32 :=
  Host.reduceAdd (uitofp .f32 noise) (constant S_ .f32 0x00000000#32) reducesTo_S100000_S_d0 h_S_

/-- The weighted payload errors of the hits. -/
def payRow (te : FVec Ideal S100000 .f32) (de : FVec Ideal S100000 .f32) (te1 : FVec Ideal S100000 .f32) (te0 : IVec S100000 1) (dx : FVec Ideal S100000x2 .f32) (dt : FVec Ideal S100000 .f32) (w : FVec Ideal S100000 .f32) : FVec Ideal S100000 .f32 :=
  mulf w (addf (addf (mulf (mulf (broadcastInDim S100000 ![] bcast_S_S100000 (constant S_ .f32 0x3F800000#32)) (maximumf (select (cmpf .ogt te (broadcastInDim S100000 ![] bcast_S_S100000 (constant S_ .f32 0x41200000#32))) (broadcastInDim S100000 ![] bcast_S_S100000 (id (constant S_ .f32 0x3F800000#32))) (Host.divf (mulf (Host.divf (subf te (broadcastInDim S100000 ![] bcast_S_S100000 (constant S_ .f32 0x3F000000#32))) (broadcastInDim S100000 ![] bcast_S_S100000 (constant S_ .f32 0x41200000#32))) (broadcastInDim S100000 ![] bcast_S_S100000 (constant S_ .f32 0x41200000#32))) (broadcastInDim S100000 ![] bcast_S_S100000 (constant S_ .f32 0x41180000#32)))) (broadcastInDim S100000 ![] bcast_S_S100000 (constant S_ .f32 0x00000000#32)))) (select te0 (broadcastInDim S100000 ![] bcast_S_S100000 (id (constant S_ .f32 0x00000000#32))) (Host.divf (mulf de de) (select te0 (broadcastInDim S100000 ![] bcast_S_S100000 (id (constant S_ .f32 0x3F800000#32))) te1)))) (mulf (broadcastInDim S100000 ![] bcast_S_S100000 (constant S_ .f32 0x3F800000#32)) (Host.divf (Host.reduceAdd (mulf dx dx) (constant S_ .f32 0x00000000#32) reducesTo_S100000x2_S100000_d1 h_S_) (broadcastInDim S100000 ![] bcast_S_S100000 (constant S_ .f32 0x42C80000#32))))) (mulf (broadcastInDim S100000 ![] bcast_S_S100000 (constant S_ .f32 0x3F800000#32)) (mulf dt dt)))

/-- The payload numerators. -/
def payNum (ids : IVec S100000 32) (u : FVec Ideal S100000 .f32) : FVec Ideal S256 .f32 :=
  Host.scatterAdd scatter_S256_S100000x1_S100000_n_0_0_1 (broadcastInDim S256 ![] bcast_S_S256 (constant S_ .f32 0x00000000#32)) (broadcastInDim S100000x1 ![0] bcast_S100000_S100000x1_0 ids) u

/-- The payloads' sum. -/
def paySum (val : IVec S256 1) (den : FVec Ideal S256 .f32) (den0 : IVec S256 1) (num : FVec Ideal S256 .f32) : FVec Ideal S_ .f32 :=
  Host.reduceAdd (select val (select den0 (broadcastInDim S256 ![] bcast_S_S256 (id (constant S_ .f32 0x00000000#32))) (Host.divf num (select den0 (broadcastInDim S256 ![] bcast_S_S256 (id (constant S_ .f32 0x3F800000#32))) den))) (broadcastInDim S256 ![] bcast_S_S256 (id (constant S_ .f32 0x00000000#32)))) (constant S_ .f32 0x00000000#32) reducesTo_S256_S_d0 h_S_

/-- The loss from its sums. -/
def total (a ac r n b z zc p : FVec Ideal S_ .f32) : FVec Ideal S_ .f32 :=
  addf (addf (mulf (constant S_ .f32 0x3F800000#32) (addf (Host.divf a (addf ac (constant S_ .f32 0x3089705F#32))) (mulf (constant S_ .f32 0x3F800000#32) (Host.divf r (addf (mulf (constant S_ .f32 0x47C35000#32) n) (constant S_ .f32 0x3089705F#32)))))) (mulf (constant S_ .f32 0x3F800000#32) (addf (Host.divf b (addf n (constant S_ .f32 0x3089705F#32))) (Host.divf (mulf (constant S_ .f32 0x3F800000#32) z) (addf zc (constant S_ .f32 0x3089705F#32)))))) (Host.divf p (addf n (constant S_ .f32 0x3089705F#32)))

/-- A bit as a number. -/
theorem bit_num (p : Prop) [Decidable p] : FloatOps.uitofp (F := Ideal) .f32 (BitVec.ofBool (decide p)) = if p then (1 : EReal) else 0 := by
  show (((BitVec.ofBool (decide p)).toNat : ℝ) : EReal) = _
  by_cases hp : p <;> simp [hp]

variable (D : Data)

/-- The weighted payload error of a hit. -/
theorem payRow_at (te de te1 : FVec Ideal S100000 .f32) (te0 : IVec S100000 1) (dx : FVec Ideal S100000x2 .f32)
    (dt w : FVec Ideal S100000 .f32) (i : Fin 100000) (h1 : te (ix1 i) = D.te i) (h2 : de (ix1 i) = D.te i - D.pe i)
    (h3 : te1 (ix1 i) = D.te i + 1) (h4 : te0 (ix1 i) = BitVec.ofBool (decide (D.te i + 1 = 0)))
    (h5 : dx (ix2 i 0) = D.tx i - D.px i) (h6 : dx (ix2 i 1) = D.ty i - D.py i) (h7 : dt (ix1 i) = D.tt i - D.pt i)
    (h8 : w (ix1 i) = D.pw i) :
    payRow te de te1 te0 dx dt w (ix1 i) = D.pw i * D.pay i := by
  unfold payRow
  simp only [id_eq]
  pointwise [h1, h2, h3, h4, h7, h8]
  rw [Fin.sum_univ_two, h5, h6, Data.pay]

/-- The payload numerator of an object. -/
theorem payNum_at (ids : IVec S100000 32) (u : FVec Ideal S100000 .f32) (hi : ∀ i, ids (ix1 i) = D.id i)
    (hu : ∀ i, u (ix1 i) = D.pw i * D.pay i) (k : Fin 256) : payNum ids u (ix1 k) = D.pn k := by
  unfold payNum
  rw [scatterAdd_row]
  pointwise [hi, hu]
  rw [Data.pn, Finset.sum_range]
  rfl

/-- The objects' payloads. -/
theorem paySum_at (val : IVec S256 1) (den : FVec Ideal S256 .f32) (den0 : IVec S256 1) (num : FVec Ideal S256 .f32)
    (hv : ∀ k, val (ix1 k) = BitVec.ofBool (decide (D.valid k))) (hd : ∀ k, den (ix1 k) = D.pd k)
    (h0 : ∀ k, den0 (ix1 k) = BitVec.ofBool (decide (D.pd k = 0))) (hn : ∀ k, num (ix1 k) = D.pn k) :
    paySum val den den0 num ix0 = ∑ k, if D.valid k then D.payk k else 0 := by
  unfold paySum
  simp only [id_eq]
  pointwise [hv, hd, h0, hn]
  rfl

/-- The noise scores. -/
theorem noiseSum_at (score : FVec Ideal S100000 .f32) (noise : IVec S100000 1) (hs : ∀ i, score (ix1 i) = D.bt i)
    (hn : ∀ i, noise (ix1 i) = BitVec.ofBool (decide (D.noise i))) : noiseSum score noise ix0 = D.w0 := by
  unfold noiseSum
  simp only [id_eq]
  pointwise [hs, hn]
  rw [Data.w0, Finset.sum_range]
  rfl

/-- The noise rows. -/
theorem noiseCount_at (noise : IVec S100000 1) (hn : ∀ i, noise (ix1 i) = BitVec.ofBool (decide (D.noise i))) :
    noiseCount noise ix0 = D.w1 := by
  unfold noiseCount
  pointwise [hn]
  simp only [bit_num]
  rw [Data.w1, Finset.sum_range]
  rfl

/-- What the objects' best scores lack. -/
theorem bestSum_at (v : IVec S256 1) (b : FVec Ideal S256 .f32) (hv : ∀ k, v (ix1 k) = BitVec.ofBool (decide (D.valid k)))
    (hb : ∀ k, b (ix1 k) = D.bk k) : bestSum v b ix0 = ∑ k, if D.valid k then 1 - min 1 (max 0 (D.bk k)) else 0 := by
  unfold bestSum
  simp only [id_eq]
  pointwise [hv, hb]

/-- The number of attraction terms. -/
theorem attCount_at (cnt : FVec Ideal S256 .f32) (val : IVec S256 1) (hc : ∀ k, cnt (ix1 k) = D.seg k)
    (hv : ∀ k, val (ix1 k) = BitVec.ofBool (decide (D.valid k))) : attCount cnt val ix0 = ∑ k, D.seg k * D.vv k := by
  unfold attCount
  pointwise [hc, hv]
  simp only [bit_num]
  rfl

/-- The attraction. -/
theorem attSum_at (dist : FVec Ideal S100000x256 .f32) (own : IVec S100000x256 1) (valr : IVec S1x256 1) (charge : FVec Ideal S100000x256 .f32)
    (ho : ∀ i k, own (ix2 i k) = BitVec.ofBool (decide (D.oh k i ∧ ¬ D.noise i)))
    (hv : ∀ k, valr (ix2 0 k) = BitVec.ofBool (decide (D.valid k)))
    (hd : ∀ i k, D.valid k → dist (ix2 i k) = D.d2 i k)
    (hq : ∀ i k, D.valid k → charge (ix2 i k) = D.q i * D.q (D.al k)) :
    attSum dist own valr charge ix0 = ∑ i ∈ Finset.range 100000, ∑ k, D.gatt i k := by
  unfold attSum
  simp only [id_eq]
  pointwise [ho, hv]
  rw [Finset.sum_range]
  refine Finset.sum_congr rfl fun i _ => Finset.sum_congr rfl fun k _ => ?_
  rw [and_bit, select_bit, Data.gatt]
  by_cases h : (D.oh k i ∧ ¬ D.noise i) ∧ D.valid k
  · rw [if_pos h, if_pos h, hd i k h.2, hq i k h.2]
  · rw [if_neg h, if_neg h]

/-- The repulsion. -/
theorem repSum_at (dist : FVec Ideal S100000x256 .f32) (own : IVec S100000x256 1) (valr : IVec S1x256 1) (charge : FVec Ideal S100000x256 .f32)
    (ho : ∀ i k, own (ix2 i k) = BitVec.ofBool (decide (D.oh k i ∧ ¬ D.noise i)))
    (hv : ∀ k, valr (ix2 0 k) = BitVec.ofBool (decide (D.valid k)))
    (hd : ∀ i k, D.valid k → dist (ix2 i k) = D.d2 i k)
    (hq : ∀ i k, D.valid k → charge (ix2 i k) = D.q i * D.q (D.al k)) :
    repSum dist own valr charge ix0 = ∑ i ∈ Finset.range 100000, ∑ k, D.grep i k := by
  unfold repSum
  simp only [id_eq]
  pointwise [ho, hv]
  rw [Finset.sum_range]
  refine Finset.sum_congr rfl fun i _ => Finset.sum_congr rfl fun k _ => ?_
  rw [compl_bit, and_bit, select_bit, Data.grep]
  by_cases h : ¬ (D.oh k i ∧ ¬ D.noise i) ∧ D.valid k
  · rw [if_pos h, if_pos h, hd i k h.2, hq i k h.2]
  · rw [if_neg h, if_neg h]

/-- The loss from the values of its sums. -/
theorem total_at (a ac r n b z zc p : FVec Ideal S_ .f32) (xa xac xr xn xb xz xzc xp : EReal) (h1 : a ix0 = xa) (h2 : ac ix0 = xac)
    (h3 : r ix0 = xr) (h4 : n ix0 = xn) (h5 : b ix0 = xb) (h6 : z ix0 = xz) (h7 : zc ix0 = xzc) (h8 : p ix0 = xp) :
    total a ac r n b z zc p ix0
      = ((Ideal.div xa (xac + tiny) + Ideal.div xr (big * xn + tiny)) + (Ideal.div xb (xn + tiny) + Ideal.div xz (xzc + tiny)))
        + Ideal.div xp (xn + tiny) := by
  unfold total
  pointwise [h1, h2, h3, h4, h5, h6, h7, h8]

end Cert.ReferenceIdeal.Value

end
-- ==== Proof.ReferenceLoss.lean ====
module

public import proofs.«01_k».proof.Proof.ReferenceBest
public import proofs.«01_k».proof.Proof.ReferenceParts

@[expose] public section

set_option maxRecDepth 16384

/-!
# The reference's loss

The reference's last value is the loss of `Spec`.
-/

noncomputable section

namespace Cert.ReferenceIdeal.Value

open Idealize.ShloMosaic Idealize.ShloMosaic.Routing Idealize.SL.Sem Cert.ReferenceIdeal Cert.Spec Cert.ReferenceIdeal.Gen
open Cert.KernelIdeal.Body (and_bit not_bit select_bit)

variable (V0 : Valuation τ sig (Elt Ideal))

/-- The row that an object chooses. -/
def aw (k : Fin 256) : Fin 100000 := Classical.choose (v42_row V0 k)

/-- The choice of an object as a word. -/
theorem v42_at (k : Fin 256) : (res_main_v42 V0 : IVec S256 32) (ix1 k) = BitVec.ofNat 32 (aw V0 k) :=
  Classical.choose_spec (v42_row V0 k)

/-- An object that counts chooses its first best hit. -/
theorem aw_al (k : Fin 256) (hv : (dat V0).valid k) : (aw V0 k : ℕ) = (dat V0).al k := by
  have hal : (dat V0).al k < 100000 := by
    obtain ⟨i0, hi0, hb⟩ := (dat V0).exists_isal k hv
    exact (Nat.sInf_mem (s := {i | i < 100000 ∧ (dat V0).isal k i}) ⟨i0, hi0, hb⟩).1
  have h := congrArg BitVec.toNat ((v42_at V0 k).symm.trans (v42_al V0 k hv))
  rw [BitVec.toNat_ofNat, BitVec.toNat_ofNat] at h
  omega

/-- A squared distance from the chosen row. -/
def dr (i : ℕ) (k : Fin 256) : EReal :=
  ((dat V0).x0 i - (dat V0).x0 (aw V0 k)) * ((dat V0).x0 i - (dat V0).x0 (aw V0 k))
    + ((dat V0).x1 i - (dat V0).x1 (aw V0 k)) * ((dat V0).x1 i - (dat V0).x1 (aw V0 k))

/-- The squared distance from the chosen row. -/
theorem v63_at (i : Fin 100000) (k : Fin 256) :
    (res_main_v63 V0 : FVec Ideal S100000x256 .f32) (ix2 i k) = dr V0 i k := by
  unfold res_main_v63 res_main_v61
  clean_types
  pointwise []
  rw [Fin.sum_univ_two, gather_pair _ _ k (aw V0 k), gather_pair _ _ k (aw V0 k)]
  · pointwise [dat_x0 V0, dat_x1 V0]
    rw [dr]
  · pointwise [v42_at V0]
    exact wrap_of_lt _ _ (by rw [BitVec.toNat_ofNat]; omega)
  · pointwise [v42_at V0]
    exact wrap_of_lt _ _ (by rw [BitVec.toNat_ofNat]; omega)

/-- The product of the charges. -/
theorem v82_at (i : Fin 100000) (k : Fin 256) :
    (res_main_v82 V0 : FVec Ideal S100000x256 .f32) (ix2 i k) = (dat V0).q i * (dat V0).q (aw V0 k) := by
  unfold res_main_v82
  clean_types
  pointwise [v5_at V0]
  rw [gather_hit _ _ k (aw V0 k)]
  · pointwise [v5_at V0]
  · pointwise [v42_at V0]
    exact wrap_of_lt _ _ (by rw [BitVec.toNat_ofNat]; omega)

/-- The objects that count, as a row. -/
theorem v77_at (k : Fin 256) :
    (res_main_v77 V0 : IVec S1x256 1) (ix2 0 k) = BitVec.ofBool (decide ((dat V0).valid k)) := by
  unfold res_main_v77
  clean_types
  pointwise [v16_at V0]

/-- The true energy. -/
theorem v121_at (i : Fin 100000) : (res_main_v121 V0 : FVec Ideal S100000 .f32) (ix1 i) = (dat V0).te i := by
  unfold res_main_v121
  clean_types
  pointwise [dat_te V0]

/-- The energy error. -/
theorem v136_at (i : Fin 100000) : (res_main_v136 V0 : FVec Ideal S100000 .f32) (ix1 i) = (dat V0).te i - (dat V0).pe i := by
  unfold res_main_v136
  clean_types
  pointwise [dat_te V0, dat_pe V0]

/-- The divisor of the energy error. -/
theorem v140_at (i : Fin 100000) : (res_main_v140 V0 : FVec Ideal S100000 .f32) (ix1 i) = (dat V0).te i + 1 := by
  unfold res_main_v140
  clean_types
  pointwise [dat_te V0]

/-- Where the divisor is zero. -/
theorem v142_at (i : Fin 100000) : (res_main_v142 V0 : IVec S100000 1) (ix1 i) = BitVec.ofBool (decide ((dat V0).te i + 1 = 0)) := by
  unfold res_main_v142
  clean_types
  pointwise [v140_at V0]

/-- The first position error. -/
theorem v146_x (i : Fin 100000) : (res_main_v146 V0 : FVec Ideal S100000x2 .f32) (ix2 i 0) = (dat V0).tx i - (dat V0).px i := by
  unfold res_main_v146
  clean_types
  pointwise [dat_tx V0, dat_px V0]

/-- The second position error. -/
theorem v146_y (i : Fin 100000) : (res_main_v146 V0 : FVec Ideal S100000x2 .f32) (ix2 i 1) = (dat V0).ty i - (dat V0).py i := by
  unfold res_main_v146
  clean_types
  pointwise [dat_ty V0, dat_py V0]

/-- The time error. -/
theorem v153_at (i : Fin 100000) : (res_main_v153 V0 : FVec Ideal S100000 .f32) (ix1 i) = (dat V0).tt i - (dat V0).pt i := by
  unfold res_main_v153
  clean_types
  pointwise [dat_tt V0, dat_pt V0]

/-- Where the payload denominator is zero. -/
theorem v173_at (k : Fin 256) : (res_main_v173 V0 : IVec S256 1) (ix1 k) = BitVec.ofBool (decide ((dat V0).pd k = 0)) := by
  unfold res_main_v173
  clean_types
  pointwise [v171_at V0]

/-- The number of objects that count. -/
theorem v84_at : (res_main_v84 V0 : FVec Ideal S_ .f32) ix0 = (dat V0).nv := by
  unfold res_main_v84
  clean_types
  pointwise [v16_at V0]
  simp only [bit_num]
  rw [Data.nv]
  rfl

/-- The squared distance from the first best hit of an object that counts. -/
theorem dist_at (i : Fin 100000) (k : Fin 256) (hv : (dat V0).valid k) :
    (res_main_v63 V0 : FVec Ideal S100000x256 .f32) (ix2 i k) = (dat V0).d2 i k := by
  rw [v63_at, dr, aw_al V0 k hv, Data.d2]

/-- The product of the charges for an object that counts. -/
theorem charge_at (i : Fin 100000) (k : Fin 256) (hv : (dat V0).valid k) :
    (res_main_v82 V0 : FVec Ideal S100000x256 .f32) (ix2 i k) = (dat V0).q i * (dat V0).q ((dat V0).al k) := by
  rw [v82_at, aw_al V0 k hv]

/-- The loss is made of its sums. -/
theorem v187_parts : (res_main_v187 V0 : FVec Ideal S_ .f32) =
    total (attSum (res_main_v63 V0) (res_main_v76 V0) (res_main_v77 V0) (res_main_v82 V0)) (attCount (res_main_v12 V0) (res_main_v16 V0)) (repSum (res_main_v63 V0) (res_main_v76 V0) (res_main_v77 V0) (res_main_v82 V0)) (res_main_v84 V0) (bestSum (res_main_v16 V0) (res_main_v26 V0)) (noiseSum (res_main_v1 V0) (res_main_v7 V0)) (noiseCount (res_main_v7 V0)) (paySum (res_main_v16 V0) (res_main_v171 V0) (res_main_v173 V0) (payNum (V0 (Proc.devRef .tc main_arg6)) (payRow (res_main_v121 V0) (res_main_v136 V0) (res_main_v140 V0) (res_main_v142 V0) (res_main_v146 V0) (res_main_v153 V0) (res_main_v164 V0)))) := rfl

/-- The reference's last value is the loss. -/
theorem v187_at : (res_main_v187 V0 : FVec Ideal S_ .f32) ix0 = (dat V0).loss := by
  rw [v187_parts]
  refine (total_at _ _ _ _ _ _ _ _ _ _ _ _ _ _ _ _
    (attSum_at (dat V0) _ _ _ _ (v76_at V0) (v77_at V0) (dist_at V0) (charge_at V0))
    (attCount_at (dat V0) _ _ (v12_at V0) (v16_at V0))
    (repSum_at (dat V0) _ _ _ _ (v76_at V0) (v77_at V0) (dist_at V0) (charge_at V0))
    (v84_at V0)
    (bestSum_at (dat V0) _ _ (v16_at V0) (v26_at V0))
    (noiseSum_at (dat V0) _ _ (v1_at V0) (v7_at V0))
    (noiseCount_at (dat V0) _ (v7_at V0))
    (paySum_at (dat V0) _ _ _ _ (v16_at V0) (v171_at V0) (v173_at V0)
      (payNum_at (dat V0) _ _ (dat_id V0) fun i =>
        payRow_at (dat V0) _ _ _ _ _ _ _ i (v121_at V0 i) (v136_at V0 i) (v140_at V0 i) (v142_at V0 i) (v146_x V0 i)
          (v146_y V0 i) (v153_at V0 i) (v164_at V0 i)))).trans ?_
  rw [Data.loss]

end Cert.ReferenceIdeal.Value

end
-- ==== Proof.Agree.lean ====
module

public import proofs.«01_k».proof.Proof.KernelIdealValue
public import proofs.«01_k».proof.Proof.ReferenceLoss

@[expose] public section

/-!
# The two programs agree

The kernel's loss and the reference's loss are the same formula of the same hits.
-/

noncomputable section

namespace Cert.Agree

open Idealize.ShloMosaic Idealize.SL.Sem Idealize.ShloMosaic.StableHlo Cert.Spec

/-- Equal columns are equal hits. -/
theorem of_congr {b b' x0 x0' x1 x1' pe pe' px px' py py' pt pt' te te' tx tx' ty ty' tt tt' : Fin 100000 → EReal}
    {id id' : Fin 100000 → BitVec 32} (h1 : b = b') (h2 : x0 = x0') (h3 : x1 = x1') (h4 : pe = pe') (h5 : px = px')
    (h6 : py = py') (h7 : pt = pt') (h8 : te = te') (h9 : tx = tx') (h10 : ty = ty') (h11 : tt = tt') (h12 : id = id') :
    Data.of b x0 x1 pe px py pt te tx ty tt id = Data.of b' x0' x1' pe' px' py' pt' te' tx' ty' tt' id' := by
  subst h1 h2 h3 h4 h5 h6 h7 h8 h9 h10 h11 h12
  rfl

/-- Both programs read the same hits from equal arguments. -/
theorem dat_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.dat (launchContents m' c) = Cert.KernelIdeal.Body.dat m c :=
  of_congr (funext fun i => congrFun h0 (ix2 i 0)) (funext fun i => congrFun h1 (ix2 i 0)) (funext fun i => congrFun h1 (ix2 i 1))
    (funext fun i => congrFun h2 (ix2 i 0)) (funext fun i => congrFun h3 (ix2 i 0)) (funext fun i => congrFun h3 (ix2 i 1))
    (funext fun i => congrFun h4 (ix2 i 0)) (funext fun i => congrFun h7 (ix2 i 0)) (funext fun i => congrFun h8 (ix2 i 0))
    (funext fun i => congrFun h8 (ix2 i 1)) (funext fun i => congrFun h9 (ix2 i 0)) (funext fun i => congrFun h6 (ix1 i))

/-- The reference's second result is the loss of its arguments. -/
theorem reference_loss (V0 : Valuation Cert.ReferenceIdeal.τ Cert.ReferenceIdeal.sig (Elt Ideal)) :
    (shapeCast _ (Cert.ReferenceIdeal.Value.res_main_v187 V0 : FVec Ideal Cert.ReferenceIdeal.S_ .f32)
      Cert.ReferenceIdeal.Gen.shapeCasts_S_S1x1 : FVec Ideal Cert.ReferenceIdeal.S1x1 .f32)
      = fun _ => (Cert.ReferenceIdeal.Value.dat V0).loss := by
  funext j
  rw [← Cert.ReferenceIdeal.Value.v187_at V0]
  exact congrArg (Cert.ReferenceIdeal.Value.res_main_v187 V0 : FVec Ideal Cert.ReferenceIdeal.S_ .f32)
    (Cert.ReferenceIdeal.Value.scalar_index _)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem reference_frame : quiescent_ReferenceIdeal := fun m ρ _ =>
  (θ_run ReferenceIdeal.defs _ _).mono (fun r h => ⟨fun c => (h c).2.2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  fun m ρ _ => Cert.Kernel.Body.frame_zero m ρ,
  fun m ρ _ => Cert.KernelIdeal.Body.frame_zero m ρ,
  reference_frame,
  trivial,
  by
    intro m g m' g' hpre hargs
    refine ⟨fun c => m ((c.tc : Thread KernelIdeal.nD KernelIdeal.τ).loc KernelIdeal.main_arg0),
      fun c _ => (Cert.KernelIdeal.Body.dat m c).loss,
      (θ_run KernelIdeal.defs _ _).mono (fun r h c => ⟨(h c).2.1, (h c).1.trans (Cert.KernelIdeal.Body.kernel_loss m c), (h c).2⟩)
        (Cert.KernelIdeal.Body.value m g),
      (θ_run ReferenceIdeal.defs _ _).mono (fun r h c => ?_) (Cert.ReferenceIdeal.Value.run m' g')⟩
    obtain ⟨h0, h1, h2, h3, h4, -, h6, h7, h8, h9⟩ := hargs c
    refine ⟨(h c).1.trans h0, (h c).2.1.trans ((Cert.Agree.reference_loss _).trans ?_), (h c).2.2⟩
    rw [Cert.Agree.dat_eq m m' c h0 h1 h2 h3 h4 h6 h7 h8 h9]
    rfl⟩

end Cert.Proof

end
